-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite_KernelIdeal [hPre_inputs_finite_KernelIdeal : Cert.Pre_inputs_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite_ReferenceIdeal [hPre_inputs_finite_ReferenceIdeal : Cert.Pre_inputs_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_inputs_finite_KernelIdeal [hKernelIdeal : Cert.KernelIdeal.Facts] [hPre_inputs_finite_KernelIdeal : Cert.Pre_inputs_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_inputs_finite_ReferenceIdeal [hReferenceIdeal : Cert.ReferenceIdeal.Facts] [hPre_inputs_finite_ReferenceIdeal : Cert.Pre_inputs_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_inputs_finite_KernelIdeal [hKernelIdeal : Cert.KernelIdeal.Facts] [hReferenceIdeal : Cert.ReferenceIdeal.Facts] [hPre_inputs_finite_KernelIdeal : Cert.Pre_inputs_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![64, 256, 512]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_inputs_finite_KernelIdeal : Cert.Pre_inputs_finite_KernelIdeal.Facts) (hPre_inputs_finite_ReferenceIdeal : Cert.Pre_inputs_finite_ReferenceIdeal.Facts),
    quiescent_Kernel (hKernel := hKernel)
    ∧ quiescent_KernelIdeal (hKernelIdeal := hKernelIdeal)
    ∧ quiescent_KernelIdeal_pre_inputs_finite_KernelIdeal (hKernelIdeal := hKernelIdeal) (hPre_inputs_finite_KernelIdeal := hPre_inputs_finite_KernelIdeal)
    ∧ quiescent_ReferenceIdeal (hReferenceIdeal := hReferenceIdeal)
    ∧ quiescent_ReferenceIdeal_pre_inputs_finite_ReferenceIdeal (hReferenceIdeal := hReferenceIdeal) (hPre_inputs_finite_ReferenceIdeal := hPre_inputs_finite_ReferenceIdeal)
    ∧ preserves_Kernel_KernelIdeal
    ∧ algebraic_KernelIdeal_ReferenceIdeal_pre_inputs_finite_KernelIdeal (hKernelIdeal := hKernelIdeal) (hReferenceIdeal := hReferenceIdeal) (hPre_inputs_finite_KernelIdeal := hPre_inputs_finite_KernelIdeal)
-- ==== Pre_inputs_finite_KernelIdeal.lean ====
abbrev S512x256 : Shape := ⟨2, ![512, 256]⟩
abbrev S256x64 : Shape := ⟨2, ![256, 64]⟩
abbrev S512x1 : Shape := ⟨2, ![512, 1]⟩
abbrev S4x256x512 : Shape := ⟨3, ![4, 256, 512]⟩
abbrev S256x512 : Shape := ⟨2, ![256, 512]⟩
abbrev S64x256 : Shape := ⟨2, ![64, 256]⟩
abbrev S576x256 : Shape := ⟨2, ![576, 256]⟩
abbrev S_ : Shape := ⟨0, ![]⟩

class Facts : Prop where
  transposes_S256x64_S64x256_1_0 : S256x64.Transposes [1, 0] S64x256
  concatenates_S512x256_S64x256_S576x256_d0 : Shape.Concatenates [S512x256, S64x256] S576x256 0
  bitsLt_bf16_f32 : FTy.bits .bf16 < FTy.bits .f32
  bcast_S_S576x256 : S_.BroadcastsInDim S576x256 (![] : Fin 0 → Fin S576x256.rank)

variable [Facts]

def fn {F : FTy → Type} [FloatOps F] (main_arg0 : FVec F S512x256 .bf16) (main_arg1 : FVec F S256x64 .bf16) (main_arg2 : IVec S512x1 32) (main_arg3 : FVec F S4x256x512 .bf16) (main_arg4 : FVec F S256x512 .bf16) : IVec S576x256 1 :=
  let main_v0 : FVec F S64x256 .bf16 := (transpose S64x256 [1, 0] · transposes_S256x64_S64x256_1_0) main_arg1
  let main_v1 : FVec F S576x256 .bf16 := (fun a b => concatenate S576x256 0 [⟨S512x256, a⟩, ⟨S64x256, b⟩] concatenates_S512x256_S64x256_S576x256_d0) main_arg0 main_v0
  let main_v2 : FVec F S576x256 .f32 := (extf .f32 · bitsLt_bf16_f32) main_v1
  let main_cst : FVec F S_ .f32 := constant S_ .f32 0xFF800000#32
  let main_v3 : FVec F S576x256 .f32 := broadcastInDim S576x256 ![] bcast_S_S576x256 main_cst
  let main_v4 : IVec S576x256 1 := cmpf .ogt main_v2 main_v3
  let main_cst_0 : FVec F S_ .f32 := constant S_ .f32 0x7F800000#32
  let main_v5 : FVec F S576x256 .f32 := broadcastInDim S576x256 ![] bcast_S_S576x256 main_cst_0
  let main_v6 : IVec S576x256 1 := cmpf .olt main_v2 main_v5
  let main_v7 : IVec S576x256 1 := andi main_v4 main_v6
  main_v7
-- ==== Pre_inputs_finite_ReferenceIdeal.lean ====
abbrev S512x256 : Shape := ⟨2, ![512, 256]⟩
abbrev S256x64 : Shape := ⟨2, ![256, 64]⟩
abbrev S512x1 : Shape := ⟨2, ![512, 1]⟩
abbrev S64x256x512 : Shape := ⟨3, ![64, 256, 512]⟩
abbrev S256x512 : Shape := ⟨2, ![256, 512]⟩
abbrev S64x256 : Shape := ⟨2, ![64, 256]⟩
abbrev S576x256 : Shape := ⟨2, ![576, 256]⟩
abbrev S_ : Shape := ⟨0, ![]⟩

class Facts : Prop where
  transposes_S256x64_S64x256_1_0 : S256x64.Transposes [1, 0] S64x256
  concatenates_S512x256_S64x256_S576x256_d0 : Shape.Concatenates [S512x256, S64x256] S576x256 0
  bitsLt_bf16_f32 : FTy.bits .bf16 < FTy.bits .f32
  bcast_S_S576x256 : S_.BroadcastsInDim S576x256 (![] : Fin 0 → Fin S576x256.rank)

variable [Facts]

def fn {F : FTy → Type} [FloatOps F] (main_arg0 : FVec F S512x256 .bf16) (main_arg1 : FVec F S256x64 .bf16) (main_arg2 : IVec S512x1 32) (main_arg3 : FVec F S64x256x512 .bf16) (main_arg4 : FVec F S256x512 .bf16) : IVec S576x256 1 :=
  let main_v0 : FVec F S64x256 .bf16 := (transpose S64x256 [1, 0] · transposes_S256x64_S64x256_1_0) main_arg1
  let main_v1 : FVec F S576x256 .bf16 := (fun a b => concatenate S576x256 0 [⟨S512x256, a⟩, ⟨S64x256, b⟩] concatenates_S512x256_S64x256_S576x256_d0) main_arg0 main_v0
  let main_v2 : FVec F S576x256 .f32 := (extf .f32 · bitsLt_bf16_f32) main_v1
  let main_cst : FVec F S_ .f32 := constant S_ .f32 0xFF800000#32
  let main_v3 : FVec F S576x256 .f32 := broadcastInDim S576x256 ![] bcast_S_S576x256 main_cst
  let main_v4 : IVec S576x256 1 := cmpf .ogt main_v2 main_v3
  let main_cst_0 : FVec F S_ .f32 := constant S_ .f32 0x7F800000#32
  let main_v5 : FVec F S576x256 .f32 := broadcastInDim S576x256 ![] bcast_S_S576x256 main_cst_0
  let main_v6 : IVec S576x256 1 := cmpf .olt main_v2 main_v5
  let main_v7 : IVec S576x256 1 := andi main_v4 main_v6
  main_v7
-- ==== Kernel.lean ====
abbrev S512x256 : Shape := ⟨2, ![512, 256]⟩
abbrev S256x64 : Shape := ⟨2, ![256, 64]⟩
abbrev S512x1 : Shape := ⟨2, ![512, 1]⟩
abbrev S4x256x512 : Shape := ⟨3, ![4, 256, 512]⟩
abbrev S256x512 : Shape := ⟨2, ![256, 512]⟩
abbrev S512x512 : Shape := ⟨2, ![512, 512]⟩
abbrev S16x32x512 : Shape := ⟨3, ![16, 32, 512]⟩
abbrev S15x32x512 : Shape := ⟨3, ![15, 32, 512]⟩
abbrev S15 : Shape := ⟨1, ![15]⟩
abbrev S_ : Shape := ⟨0, ![]⟩
abbrev S512x64 : Shape := ⟨2, ![512, 64]⟩
abbrev S512 : Shape := ⟨1, ![512]⟩
abbrev S512x1024 : Shape := ⟨2, ![512, 1024]⟩
abbrev S1024x512 : Shape := ⟨2, ![1024, 512]⟩
abbrev S1 : Shape := ⟨1, ![1]⟩
abbrev S1x32x512 : Shape := ⟨3, ![1, 32, 512]⟩
abbrev S32x512 : Shape := ⟨2, ![32, 512]⟩

abbrev nBuf : Space → Nat
  | .hbm => 6
  | .vmem => 8
  | .smem => 0
  | _ => 0

abbrev bufTy : (tb : Table) → Fin (tcTables nBuf tb) → BufTy
  | .hbm, ⟨0, _⟩ => ⟨S512x256, .bf16⟩
  | .hbm, ⟨1, _⟩ => ⟨S256x64, .bf16⟩
  | .hbm, ⟨2, _⟩ => ⟨S512x1, .i32⟩
  | .hbm, ⟨3, _⟩ => ⟨S4x256x512, .bf16⟩
  | .hbm, ⟨4, _⟩ => ⟨S256x512, .bf16⟩
  | .hbm, ⟨5, _⟩ => ⟨S512x512, .bf16⟩
  | .local _ .vmem, ⟨0, _⟩ => ⟨S512x256, .bf16⟩
  | .local _ .vmem, ⟨1, _⟩ => ⟨S256x64, .bf16⟩
  | .local _ .vmem, ⟨2, _⟩ => ⟨S512x1, .i32⟩
  | .local _ .vmem, ⟨3, _⟩ => ⟨S4x256x512, .bf16⟩
  | .local _ .vmem, ⟨4, _⟩ => ⟨S256x512, .bf16⟩
  | .local _ .vmem, ⟨5, _⟩ => ⟨S512x512, .bf16⟩
  | .local _ .vmem, ⟨6, _⟩ => ⟨S16x32x512, .bf16⟩
  | .local _ .vmem, ⟨7, _⟩ => ⟨S15x32x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c1_i32_164 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v268 : BitVec 32 := Scalar.addi v2 c1_i32_164
  let c16_i32_165 : BitVec 32 := 16#32
  let c0_i32_166 : BitVec 32 := 0#32
  let v269 : BitVec 1 := Scalar.cmpi .eq c16_i32_165 c0_i32_166
  let c1_i32_167 : BitVec 32 := 1#32
  let v270 : BitVec 32 := Scalar.select v269 c1_i32_167 c16_i32_165
  let v271 : BitVec 32 := Scalar.remsi v268 v270
  let c0_i32_169 : BitVec 32 := 0#32
  let v273 : BitVec 1 := Scalar.cmpi .slt v271 c0_i32_169
  let c0_i32_170 : BitVec 32 := 0#32
  let v274 : BitVec 1 := Scalar.cmpi .slt v270 c0_i32_170
  let v275 : BitVec 1 := Scalar.xori v273 v274
  let c0_i32_168 : BitVec 32 := 0#32
  let v272 : BitVec 1 := Scalar.cmpi .ne v271 c0_i32_168
  let v276 : BitVec 1 := Scalar.andi v275 v272
  let v277 : BitVec 32 := Scalar.addi v271 v270
  let v278 : BitVec 32 := Scalar.select v276 v277 v271
  let c0_i32_178 : BitVec 32 := 0#32
  let c0_i32_179 : BitVec 32 := 0#32
  ![v278.toNat, 0, 0]
def k0_dev16 (d0 : Dev nD) : Nat :=
  let c0_i32_175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_164 : BitVec 32 := 1#32
  let v268 : BitVec 32 := Scalar.addi v2 c1_i32_164
  let c16_i32_165 : BitVec 32 := 16#32
  let c0_i32_166 : BitVec 32 := 0#32
  let v269 : BitVec 1 := Scalar.cmpi .eq c16_i32_165 c0_i32_166
  let c1_i32_167 : BitVec 32 := 1#32
  let v270 : BitVec 32 := Scalar.select v269 c1_i32_167 c16_i32_165
  let v271 : BitVec 32 := Scalar.remsi v268 v270
  let c0_i32_169 : BitVec 32 := 0#32
  let v273 : BitVec 1 := Scalar.cmpi .slt v271 c0_i32_169
  let c0_i32_170 : BitVec 32 := 0#32
  let v274 : BitVec 1 := Scalar.cmpi .slt v270 c0_i32_170
  let v275 : BitVec 1 := Scalar.xori v273 v274
  let c0_i32_168 : BitVec 32 := 0#32
  let v272 : BitVec 1 := Scalar.cmpi .ne v271 c0_i32_168
  let v276 : BitVec 1 := Scalar.andi v275 v272
  let v277 : BitVec 32 := Scalar.addi v271 v270
  let v278 : BitVec 32 := Scalar.select v276 v277 v271
  let c1_i32_174 : BitVec 32 := 1#32
  let v279 : BitVec 32 := Scalar.muli v278 c1_i32_174
  let v280 : BitVec 32 := Scalar.addi c0_i32_175 v279
  v280.toNat
def k0_dev17 (d0 : Dev nD) : Nat :=
  let c0_i32_191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_180 : BitVec 32 := 2#32
  let v289 : BitVec 32 := Scalar.addi v2 c2_i32_180
  let c16_i32_181 : BitVec 32 := 16#32
  let c0_i32_182 : BitVec 32 := 0#32
  let v290 : BitVec 1 := Scalar.cmpi .eq c16_i32_181 c0_i32_182
  let c1_i32_183 : BitVec 32 := 1#32
  let v291 : BitVec 32 := Scalar.select v290 c1_i32_183 c16_i32_181
  let v292 : BitVec 32 := Scalar.remsi v289 v291
  let c0_i32_185 : BitVec 32 := 0#32
  let v294 : BitVec 1 := Scalar.cmpi .slt v292 c0_i32_185
  let c0_i32_186 : BitVec 32 := 0#32
  let v295 : BitVec 1 := Scalar.cmpi .slt v291 c0_i32_186
  let v296 : BitVec 1 := Scalar.xori v294 v295
  let c0_i32_184 : BitVec 32 := 0#32
  let v293 : BitVec 1 := Scalar.cmpi .ne v292 c0_i32_184
  let v297 : BitVec 1 := Scalar.andi v296 v293
  let v298 : BitVec 32 := Scalar.addi v292 v291
  let v299 : BitVec 32 := Scalar.select v297 v298 v292
  let c1_i32_190 : BitVec 32 := 1#32
  let v300 : BitVec 32 := Scalar.muli v299 c1_i32_190
  let v301 : BitVec 32 := Scalar.addi c0_i32_191 v300
  v301.toNat
def k0_dev18 (d0 : Dev nD) : Nat :=
  let c0_i32_207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_196 : BitVec 32 := 3#32
  let v310 : BitVec 32 := Scalar.addi v2 c3_i32_196
  let c16_i32_197 : BitVec 32 := 16#32
  let c0_i32_198 : BitVec 32 := 0#32
  let v311 : BitVec 1 := Scalar.cmpi .eq c16_i32_197 c0_i32_198
  let c1_i32_199 : BitVec 32 := 1#32
  let v312 : BitVec 32 := Scalar.select v311 c1_i32_199 c16_i32_197
  let v313 : BitVec 32 := Scalar.remsi v310 v312
  let c0_i32_201 : BitVec 32 := 0#32
  let v315 : BitVec 1 := Scalar.cmpi .slt v313 c0_i32_201
  let c0_i32_202 : BitVec 32 := 0#32
  let v316 : BitVec 1 := Scalar.cmpi .slt v312 c0_i32_202
  let v317 : BitVec 1 := Scalar.xori v315 v316
  let c0_i32_200 : BitVec 32 := 0#32
  let v314 : BitVec 1 := Scalar.cmpi .ne v313 c0_i32_200
  let v318 : BitVec 1 := Scalar.andi v317 v314
  let v319 : BitVec 32 := Scalar.addi v313 v312
  let v320 : BitVec 32 := Scalar.select v318 v319 v313
  let c1_i32_206 : BitVec 32 := 1#32
  let v321 : BitVec 32 := Scalar.muli v320 c1_i32_206
  let v322 : BitVec 32 := Scalar.addi c0_i32_207 v321
  v322.toNat
def k0_dev19 (d0 : Dev nD) : Nat :=
  let c0_i32_223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_212 : BitVec 32 := 4#32
  let v331 : BitVec 32 := Scalar.addi v2 c4_i32_212
  let c16_i32_213 : BitVec 32 := 16#32
  let c0_i32_214 : BitVec 32 := 0#32
  let v332 : BitVec 1 := Scalar.cmpi .eq c16_i32_213 c0_i32_214
  let c1_i32_215 : BitVec 32 := 1#32
  let v333 : BitVec 32 := Scalar.select v332 c1_i32_215 c16_i32_213
  let v334 : BitVec 32 := Scalar.remsi v331 v333
  let c0_i32_217 : BitVec 32 := 0#32
  let v336 : BitVec 1 := Scalar.cmpi .slt v334 c0_i32_217
  let c0_i32_218 : BitVec 32 := 0#32
  let v337 : BitVec 1 := Scalar.cmpi .slt v333 c0_i32_218
  let v338 : BitVec 1 := Scalar.xori v336 v337
  let c0_i32_216 : BitVec 32 := 0#32
  let v335 : BitVec 1 := Scalar.cmpi .ne v334 c0_i32_216
  let v339 : BitVec 1 := Scalar.andi v338 v335
  let v340 : BitVec 32 := Scalar.addi v334 v333
  let v341 : BitVec 32 := Scalar.select v339 v340 v334
  let c1_i32_222 : BitVec 32 := 1#32
  let v342 : BitVec 32 := Scalar.muli v341 c1_i32_222
  let v343 : BitVec 32 := Scalar.addi c0_i32_223 v342
  v343.toNat
def k0_dev20 (d0 : Dev nD) : Nat :=
  let c0_i32_239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_228 : BitVec 32 := 5#32
  let v352 : BitVec 32 := Scalar.addi v2 c5_i32_228
  let c16_i32_229 : BitVec 32 := 16#32
  let c0_i32_230 : BitVec 32 := 0#32
  let v353 : BitVec 1 := Scalar.cmpi .eq c16_i32_229 c0_i32_230
  let c1_i32_231 : BitVec 32 := 1#32
  let v354 : BitVec 32 := Scalar.select v353 c1_i32_231 c16_i32_229
  let v355 : BitVec 32 := Scalar.remsi v352 v354
  let c0_i32_233 : BitVec 32 := 0#32
  let v357 : BitVec 1 := Scalar.cmpi .slt v355 c0_i32_233
  let c0_i32_234 : BitVec 32 := 0#32
  let v358 : BitVec 1 := Scalar.cmpi .slt v354 c0_i32_234
  let v359 : BitVec 1 := Scalar.xori v357 v358
  let c0_i32_232 : BitVec 32 := 0#32
  let v356 : BitVec 1 := Scalar.cmpi .ne v355 c0_i32_232
  let v360 : BitVec 1 := Scalar.andi v359 v356
  let v361 : BitVec 32 := Scalar.addi v355 v354
  let v362 : BitVec 32 := Scalar.select v360 v361 v355
  let c1_i32_238 : BitVec 32 := 1#32
  let v363 : BitVec 32 := Scalar.muli v362 c1_i32_238
  let v364 : BitVec 32 := Scalar.addi c0_i32_239 v363
  v364.toNat
def k0_dev21 (d0 : Dev nD) : Nat :=
  let c0_i32_255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_244 : BitVec 32 := 6#32
  let v373 : BitVec 32 := Scalar.addi v2 c6_i32_244
  let c16_i32_245 : BitVec 32 := 16#32
  let c0_i32_246 : BitVec 32 := 0#32
  let v374 : BitVec 1 := Scalar.cmpi .eq c16_i32_245 c0_i32_246
  let c1_i32_247 : BitVec 32 := 1#32
  let v375 : BitVec 32 := Scalar.select v374 c1_i32_247 c16_i32_245
  let v376 : BitVec 32 := Scalar.remsi v373 v375
  let c0_i32_249 : BitVec 32 := 0#32
  let v378 : BitVec 1 := Scalar.cmpi .slt v376 c0_i32_249
  let c0_i32_250 : BitVec 32 := 0#32
  let v379 : BitVec 1 := Scalar.cmpi .slt v375 c0_i32_250
  let v380 : BitVec 1 := Scalar.xori v378 v379
  let c0_i32_248 : BitVec 32 := 0#32
  let v377 : BitVec 1 := Scalar.cmpi .ne v376 c0_i32_248
  let v381 : BitVec 1 := Scalar.andi v380 v377
  let v382 : BitVec 32 := Scalar.addi v376 v375
  let v383 : BitVec 32 := Scalar.select v381 v382 v376
  let c1_i32_254 : BitVec 32 := 1#32
  let v384 : BitVec 32 := Scalar.muli v383 c1_i32_254
  let v385 : BitVec 32 := Scalar.addi c0_i32_255 v384
  v385.toNat
def k0_dev22 (d0 : Dev nD) : Nat :=
  let c0_i32_271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_260 : BitVec 32 := 7#32
  let v394 : BitVec 32 := Scalar.addi v2 c7_i32_260
  let c16_i32_261 : BitVec 32 := 16#32
  let c0_i32_262 : BitVec 32 := 0#32
  let v395 : BitVec 1 := Scalar.cmpi .eq c16_i32_261 c0_i32_262
  let c1_i32_263 : BitVec 32 := 1#32
  let v396 : BitVec 32 := Scalar.select v395 c1_i32_263 c16_i32_261
  let v397 : BitVec 32 := Scalar.remsi v394 v396
  let c0_i32_265 : BitVec 32 := 0#32
  let v399 : BitVec 1 := Scalar.cmpi .slt v397 c0_i32_265
  let c0_i32_266 : BitVec 32 := 0#32
  let v400 : BitVec 1 := Scalar.cmpi .slt v396 c0_i32_266
  let v401 : BitVec 1 := Scalar.xori v399 v400
  let c0_i32_264 : BitVec 32 := 0#32
  let v398 : BitVec 1 := Scalar.cmpi .ne v397 c0_i32_264
  let v402 : BitVec 1 := Scalar.andi v401 v398
  let v403 : BitVec 32 := Scalar.addi v397 v396
  let v404 : BitVec 32 := Scalar.select v402 v403 v397
  let c1_i32_270 : BitVec 32 := 1#32
  let v405 : BitVec 32 := Scalar.muli v404 c1_i32_270
  let v406 : BitVec 32 := Scalar.addi c0_i32_271 v405
  v406.toNat
def k0_dev23 (d0 : Dev nD) : Nat :=
  let c0_i32_287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_276 : BitVec 32 := 8#32
  let v415 : BitVec 32 := Scalar.addi v2 c8_i32_276
  let c16_i32_277 : BitVec 32 := 16#32
  let c0_i32_278 : BitVec 32 := 0#32
  let v416 : BitVec 1 := Scalar.cmpi .eq c16_i32_277 c0_i32_278
  let c1_i32_279 : BitVec 32 := 1#32
  let v417 : BitVec 32 := Scalar.select v416 c1_i32_279 c16_i32_277
  let v418 : BitVec 32 := Scalar.remsi v415 v417
  let c0_i32_281 : BitVec 32 := 0#32
  let v420 : BitVec 1 := Scalar.cmpi .slt v418 c0_i32_281
  let c0_i32_282 : BitVec 32 := 0#32
  let v421 : BitVec 1 := Scalar.cmpi .slt v417 c0_i32_282
  let v422 : BitVec 1 := Scalar.xori v420 v421
  let c0_i32_280 : BitVec 32 := 0#32
  let v419 : BitVec 1 := Scalar.cmpi .ne v418 c0_i32_280
  let v423 : BitVec 1 := Scalar.andi v422 v419
  let v424 : BitVec 32 := Scalar.addi v418 v417
  let v425 : BitVec 32 := Scalar.select v423 v424 v418
  let c1_i32_286 : BitVec 32 := 1#32
  let v426 : BitVec 32 := Scalar.muli v425 c1_i32_286
  let v427 : BitVec 32 := Scalar.addi c0_i32_287 v426
  v427.toNat
def k0_dev24 (d0 : Dev nD) : Nat :=
  let c0_i32_303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_292 : BitVec 32 := 9#32
  let v436 : BitVec 32 := Scalar.addi v2 c9_i32_292
  let c16_i32_293 : BitVec 32 := 16#32
  let c0_i32_294 : BitVec 32 := 0#32
  let v437 : BitVec 1 := Scalar.cmpi .eq c16_i32_293 c0_i32_294
  let c1_i32_295 : BitVec 32 := 1#32
  let v438 : BitVec 32 := Scalar.select v437 c1_i32_295 c16_i32_293
  let v439 : BitVec 32 := Scalar.remsi v436 v438
  let c0_i32_297 : BitVec 32 := 0#32
  let v441 : BitVec 1 := Scalar.cmpi .slt v439 c0_i32_297
  let c0_i32_298 : BitVec 32 := 0#32
  let v442 : BitVec 1 := Scalar.cmpi .slt v438 c0_i32_298
  let v443 : BitVec 1 := Scalar.xori v441 v442
  let c0_i32_296 : BitVec 32 := 0#32
  let v440 : BitVec 1 := Scalar.cmpi .ne v439 c0_i32_296
  let v444 : BitVec 1 := Scalar.andi v443 v440
  let v445 : BitVec 32 := Scalar.addi v439 v438
  let v446 : BitVec 32 := Scalar.select v444 v445 v439
  let c1_i32_302 : BitVec 32 := 1#32
  let v447 : BitVec 32 := Scalar.muli v446 c1_i32_302
  let v448 : BitVec 32 := Scalar.addi c0_i32_303 v447
  v448.toNat
def k0_dev25 (d0 : Dev nD) : Nat :=
  let c0_i32_319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_308 : BitVec 32 := 10#32
  let v457 : BitVec 32 := Scalar.addi v2 c10_i32_308
  let c16_i32_309 : BitVec 32 := 16#32
  let c0_i32_310 : BitVec 32 := 0#32
  let v458 : BitVec 1 := Scalar.cmpi .eq c16_i32_309 c0_i32_310
  let c1_i32_311 : BitVec 32 := 1#32
  let v459 : BitVec 32 := Scalar.select v458 c1_i32_311 c16_i32_309
  let v460 : BitVec 32 := Scalar.remsi v457 v459
  let c0_i32_313 : BitVec 32 := 0#32
  let v462 : BitVec 1 := Scalar.cmpi .slt v460 c0_i32_313
  let c0_i32_314 : BitVec 32 := 0#32
  let v463 : BitVec 1 := Scalar.cmpi .slt v459 c0_i32_314
  let v464 : BitVec 1 := Scalar.xori v462 v463
  let c0_i32_312 : BitVec 32 := 0#32
  let v461 : BitVec 1 := Scalar.cmpi .ne v460 c0_i32_312
  let v465 : BitVec 1 := Scalar.andi v464 v461
  let v466 : BitVec 32 := Scalar.addi v460 v459
  let v467 : BitVec 32 := Scalar.select v465 v466 v460
  let c1_i32_318 : BitVec 32 := 1#32
  let v468 : BitVec 32 := Scalar.muli v467 c1_i32_318
  let v469 : BitVec 32 := Scalar.addi c0_i32_319 v468
  v469.toNat
def k0_dev26 (d0 : Dev nD) : Nat :=
  let c0_i32_335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_324 : BitVec 32 := 11#32
  let v478 : BitVec 32 := Scalar.addi v2 c11_i32_324
  let c16_i32_325 : BitVec 32 := 16#32
  let c0_i32_326 : BitVec 32 := 0#32
  let v479 : BitVec 1 := Scalar.cmpi .eq c16_i32_325 c0_i32_326
  let c1_i32_327 : BitVec 32 := 1#32
  let v480 : BitVec 32 := Scalar.select v479 c1_i32_327 c16_i32_325
  let v481 : BitVec 32 := Scalar.remsi v478 v480
  let c0_i32_329 : BitVec 32 := 0#32
  let v483 : BitVec 1 := Scalar.cmpi .slt v481 c0_i32_329
  let c0_i32_330 : BitVec 32 := 0#32
  let v484 : BitVec 1 := Scalar.cmpi .slt v480 c0_i32_330
  let v485 : BitVec 1 := Scalar.xori v483 v484
  let c0_i32_328 : BitVec 32 := 0#32
  let v482 : BitVec 1 := Scalar.cmpi .ne v481 c0_i32_328
  let v486 : BitVec 1 := Scalar.andi v485 v482
  let v487 : BitVec 32 := Scalar.addi v481 v480
  let v488 : BitVec 32 := Scalar.select v486 v487 v481
  let c1_i32_334 : BitVec 32 := 1#32
  let v489 : BitVec 32 := Scalar.muli v488 c1_i32_334
  let v490 : BitVec 32 := Scalar.addi c0_i32_335 v489
  v490.toNat
def k0_dev27 (d0 : Dev nD) : Nat :=
  let c0_i32_351 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_340 : BitVec 32 := 12#32
  let v499 : BitVec 32 := Scalar.addi v2 c12_i32_340
  let c16_i32_341 : BitVec 32 := 16#32
  let c0_i32_342 : BitVec 32 := 0#32
  let v500 : BitVec 1 := Scalar.cmpi .eq c16_i32_341 c0_i32_342
  let c1_i32_343 : BitVec 32 := 1#32
  let v501 : BitVec 32 := Scalar.select v500 c1_i32_343 c16_i32_341
  let v502 : BitVec 32 := Scalar.remsi v499 v501
  let c0_i32_345 : BitVec 32 := 0#32
  let v504 : BitVec 1 := Scalar.cmpi .slt v502 c0_i32_345
  let c0_i32_346 : BitVec 32 := 0#32
  let v505 : BitVec 1 := Scalar.cmpi .slt v501 c0_i32_346
  let v506 : BitVec 1 := Scalar.xori v504 v505
  let c0_i32_344 : BitVec 32 := 0#32
  let v503 : BitVec 1 := Scalar.cmpi .ne v502 c0_i32_344
  let v507 : BitVec 1 := Scalar.andi v506 v503
  let v508 : BitVec 32 := Scalar.addi v502 v501
  let v509 : BitVec 32 := Scalar.select v507 v508 v502
  let c1_i32_350 : BitVec 32 := 1#32
  let v510 : BitVec 32 := Scalar.muli v509 c1_i32_350
  let v511 : BitVec 32 := Scalar.addi c0_i32_351 v510
  v511.toNat
def k0_dev28 (d0 : Dev nD) : Nat :=
  let c0_i32_367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_356 : BitVec 32 := 13#32
  let v520 : BitVec 32 := Scalar.addi v2 c13_i32_356
  let c16_i32_357 : BitVec 32 := 16#32
  let c0_i32_358 : BitVec 32 := 0#32
  let v521 : BitVec 1 := Scalar.cmpi .eq c16_i32_357 c0_i32_358
  let c1_i32_359 : BitVec 32 := 1#32
  let v522 : BitVec 32 := Scalar.select v521 c1_i32_359 c16_i32_357
  let v523 : BitVec 32 := Scalar.remsi v520 v522
  let c0_i32_361 : BitVec 32 := 0#32
  let v525 : BitVec 1 := Scalar.cmpi .slt v523 c0_i32_361
  let c0_i32_362 : BitVec 32 := 0#32
  let v526 : BitVec 1 := Scalar.cmpi .slt v522 c0_i32_362
  let v527 : BitVec 1 := Scalar.xori v525 v526
  let c0_i32_360 : BitVec 32 := 0#32
  let v524 : BitVec 1 := Scalar.cmpi .ne v523 c0_i32_360
  let v528 : BitVec 1 := Scalar.andi v527 v524
  let v529 : BitVec 32 := Scalar.addi v523 v522
  let v530 : BitVec 32 := Scalar.select v528 v529 v523
  let c1_i32_366 : BitVec 32 := 1#32
  let v531 : BitVec 32 := Scalar.muli v530 c1_i32_366
  let v532 : BitVec 32 := Scalar.addi c0_i32_367 v531
  v532.toNat
def k0_dev29 (d0 : Dev nD) : Nat :=
  let c0_i32_383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_372 : BitVec 32 := 14#32
  let v541 : BitVec 32 := Scalar.addi v2 c14_i32_372
  let c16_i32_373 : BitVec 32 := 16#32
  let c0_i32_374 : BitVec 32 := 0#32
  let v542 : BitVec 1 := Scalar.cmpi .eq c16_i32_373 c0_i32_374
  let c1_i32_375 : BitVec 32 := 1#32
  let v543 : BitVec 32 := Scalar.select v542 c1_i32_375 c16_i32_373
  let v544 : BitVec 32 := Scalar.remsi v541 v543
  let c0_i32_377 : BitVec 32 := 0#32
  let v546 : BitVec 1 := Scalar.cmpi .slt v544 c0_i32_377
  let c0_i32_378 : BitVec 32 := 0#32
  let v547 : BitVec 1 := Scalar.cmpi .slt v543 c0_i32_378
  let v548 : BitVec 1 := Scalar.xori v546 v547
  let c0_i32_376 : BitVec 32 := 0#32
  let v545 : BitVec 1 := Scalar.cmpi .ne v544 c0_i32_376
  let v549 : BitVec 1 := Scalar.andi v548 v545
  let v550 : BitVec 32 := Scalar.addi v544 v543
  let v551 : BitVec 32 := Scalar.select v549 v550 v544
  let c1_i32_382 : BitVec 32 := 1#32
  let v552 : BitVec 32 := Scalar.muli v551 c1_i32_382
  let v553 : BitVec 32 := Scalar.addi c0_i32_383 v552
  v553.toNat
def k0_dev30 (d0 : Dev nD) : Nat :=
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_388 : BitVec 32 := 15#32
  let v562 : BitVec 32 := Scalar.addi v2 c15_i32_388
  let c16_i32_389 : BitVec 32 := 16#32
  let c0_i32_390 : BitVec 32 := 0#32
  let v563 : BitVec 1 := Scalar.cmpi .eq c16_i32_389 c0_i32_390
  let c1_i32_391 : BitVec 32 := 1#32
  let v564 : BitVec 32 := Scalar.select v563 c1_i32_391 c16_i32_389
  let v565 : BitVec 32 := Scalar.remsi v562 v564
  let c0_i32_393 : BitVec 32 := 0#32
  let v567 : BitVec 1 := Scalar.cmpi .slt v565 c0_i32_393
  let c0_i32_394 : BitVec 32 := 0#32
  let v568 : BitVec 1 := Scalar.cmpi .slt v564 c0_i32_394
  let v569 : BitVec 1 := Scalar.xori v567 v568
  let c0_i32_392 : BitVec 32 := 0#32
  let v566 : BitVec 1 := Scalar.cmpi .ne v565 c0_i32_392
  let v570 : BitVec 1 := Scalar.andi v569 v566
  let v571 : BitVec 32 := Scalar.addi v565 v564
  let v572 : BitVec 32 := Scalar.select v570 v571 v565
  let c1_i32_398 : BitVec 32 := 1#32
  let v573 : BitVec 32 := Scalar.muli v572 c1_i32_398
  let v574 : BitVec 32 := Scalar.addi c0_i32_399 v573
  v574.toNat
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v797 : Index := Scalar.indexCast v2
  let c0_662 : Index := 0#32
  let c0_663 : Index := 0#32
  ![v797.toNat, 0, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v806 : BitVec 32 := Scalar.muli v2 c32_i32
  let v807 : Index := Scalar.indexCast v806
  let c0_668 : Index := 0#32
  ![v807.toNat, 0]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_677 : BitVec 32 := 32#32
  let v821 : BitVec 32 := Scalar.muli v2 c32_i32_677
  let c0_i32_682 : BitVec 32 := 0#32
  ![v821.toNat, 0]
def k0_dev31 (d0 : Dev nD) : Nat :=
  let c0_i32_681 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_669 : BitVec 32 := 1#32
  let v809 : BitVec 32 := Scalar.addi v2 c1_i32_669
  let c16_i32_670 : BitVec 32 := 16#32
  let c0_i32_671 : BitVec 32 := 0#32
  let v810 : BitVec 1 := Scalar.cmpi .eq c16_i32_670 c0_i32_671
  let c1_i32_672 : BitVec 32 := 1#32
  let v811 : BitVec 32 := Scalar.select v810 c1_i32_672 c16_i32_670
  let v812 : BitVec 32 := Scalar.remsi v809 v811
  let c0_i32_674 : BitVec 32 := 0#32
  let v814 : BitVec 1 := Scalar.cmpi .slt v812 c0_i32_674
  let c0_i32_675 : BitVec 32 := 0#32
  let v815 : BitVec 1 := Scalar.cmpi .slt v811 c0_i32_675
  let v816 : BitVec 1 := Scalar.xori v814 v815
  let c0_i32_673 : BitVec 32 := 0#32
  let v813 : BitVec 1 := Scalar.cmpi .ne v812 c0_i32_673
  let v817 : BitVec 1 := Scalar.andi v816 v813
  let v818 : BitVec 32 := Scalar.addi v812 v811
  let v819 : BitVec 32 := Scalar.select v817 v818 v812
  let c1_i32_680 : BitVec 32 := 1#32
  let v822 : BitVec 32 := Scalar.muli v819 c1_i32_680
  let v823 : BitVec 32 := Scalar.addi c0_i32_681 v822
  v823.toNat
def k0_dev32 (d0 : Dev nD) : Nat :=
  let c0_i32_696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_684 : BitVec 32 := 2#32
  let v830 : BitVec 32 := Scalar.addi v2 c2_i32_684
  let c16_i32_685 : BitVec 32 := 16#32
  let c0_i32_686 : BitVec 32 := 0#32
  let v831 : BitVec 1 := Scalar.cmpi .eq c16_i32_685 c0_i32_686
  let c1_i32_687 : BitVec 32 := 1#32
  let v832 : BitVec 32 := Scalar.select v831 c1_i32_687 c16_i32_685
  let v833 : BitVec 32 := Scalar.remsi v830 v832
  let c0_i32_689 : BitVec 32 := 0#32
  let v835 : BitVec 1 := Scalar.cmpi .slt v833 c0_i32_689
  let c0_i32_690 : BitVec 32 := 0#32
  let v836 : BitVec 1 := Scalar.cmpi .slt v832 c0_i32_690
  let v837 : BitVec 1 := Scalar.xori v835 v836
  let c0_i32_688 : BitVec 32 := 0#32
  let v834 : BitVec 1 := Scalar.cmpi .ne v833 c0_i32_688
  let v838 : BitVec 1 := Scalar.andi v837 v834
  let v839 : BitVec 32 := Scalar.addi v833 v832
  let v840 : BitVec 32 := Scalar.select v838 v839 v833
  let c1_i32_695 : BitVec 32 := 1#32
  let v843 : BitVec 32 := Scalar.muli v840 c1_i32_695
  let v844 : BitVec 32 := Scalar.addi c0_i32_696 v843
  v844.toNat
def k0_dev33 (d0 : Dev nD) : Nat :=
  let c0_i32_711 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_699 : BitVec 32 := 3#32
  let v851 : BitVec 32 := Scalar.addi v2 c3_i32_699
  let c16_i32_700 : BitVec 32 := 16#32
  let c0_i32_701 : BitVec 32 := 0#32
  let v852 : BitVec 1 := Scalar.cmpi .eq c16_i32_700 c0_i32_701
  let c1_i32_702 : BitVec 32 := 1#32
  let v853 : BitVec 32 := Scalar.select v852 c1_i32_702 c16_i32_700
  let v854 : BitVec 32 := Scalar.remsi v851 v853
  let c0_i32_704 : BitVec 32 := 0#32
  let v856 : BitVec 1 := Scalar.cmpi .slt v854 c0_i32_704
  let c0_i32_705 : BitVec 32 := 0#32
  let v857 : BitVec 1 := Scalar.cmpi .slt v853 c0_i32_705
  let v858 : BitVec 1 := Scalar.xori v856 v857
  let c0_i32_703 : BitVec 32 := 0#32
  let v855 : BitVec 1 := Scalar.cmpi .ne v854 c0_i32_703
  let v859 : BitVec 1 := Scalar.andi v858 v855
  let v860 : BitVec 32 := Scalar.addi v854 v853
  let v861 : BitVec 32 := Scalar.select v859 v860 v854
  let c1_i32_710 : BitVec 32 := 1#32
  let v864 : BitVec 32 := Scalar.muli v861 c1_i32_710
  let v865 : BitVec 32 := Scalar.addi c0_i32_711 v864
  v865.toNat
def k0_dev34 (d0 : Dev nD) : Nat :=
  let c0_i32_726 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_714 : BitVec 32 := 4#32
  let v872 : BitVec 32 := Scalar.addi v2 c4_i32_714
  let c16_i32_715 : BitVec 32 := 16#32
  let c0_i32_716 : BitVec 32 := 0#32
  let v873 : BitVec 1 := Scalar.cmpi .eq c16_i32_715 c0_i32_716
  let c1_i32_717 : BitVec 32 := 1#32
  let v874 : BitVec 32 := Scalar.select v873 c1_i32_717 c16_i32_715
  let v875 : BitVec 32 := Scalar.remsi v872 v874
  let c0_i32_719 : BitVec 32 := 0#32
  let v877 : BitVec 1 := Scalar.cmpi .slt v875 c0_i32_719
  let c0_i32_720 : BitVec 32 := 0#32
  let v878 : BitVec 1 := Scalar.cmpi .slt v874 c0_i32_720
  let v879 : BitVec 1 := Scalar.xori v877 v878
  let c0_i32_718 : BitVec 32 := 0#32
  let v876 : BitVec 1 := Scalar.cmpi .ne v875 c0_i32_718
  let v880 : BitVec 1 := Scalar.andi v879 v876
  let v881 : BitVec 32 := Scalar.addi v875 v874
  let v882 : BitVec 32 := Scalar.select v880 v881 v875
  let c1_i32_725 : BitVec 32 := 1#32
  let v885 : BitVec 32 := Scalar.muli v882 c1_i32_725
  let v886 : BitVec 32 := Scalar.addi c0_i32_726 v885
  v886.toNat
def k0_dev35 (d0 : Dev nD) : Nat :=
  let c0_i32_741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_729 : BitVec 32 := 5#32
  let v893 : BitVec 32 := Scalar.addi v2 c5_i32_729
  let c16_i32_730 : BitVec 32 := 16#32
  let c0_i32_731 : BitVec 32 := 0#32
  let v894 : BitVec 1 := Scalar.cmpi .eq c16_i32_730 c0_i32_731
  let c1_i32_732 : BitVec 32 := 1#32
  let v895 : BitVec 32 := Scalar.select v894 c1_i32_732 c16_i32_730
  let v896 : BitVec 32 := Scalar.remsi v893 v895
  let c0_i32_734 : BitVec 32 := 0#32
  let v898 : BitVec 1 := Scalar.cmpi .slt v896 c0_i32_734
  let c0_i32_735 : BitVec 32 := 0#32
  let v899 : BitVec 1 := Scalar.cmpi .slt v895 c0_i32_735
  let v900 : BitVec 1 := Scalar.xori v898 v899
  let c0_i32_733 : BitVec 32 := 0#32
  let v897 : BitVec 1 := Scalar.cmpi .ne v896 c0_i32_733
  let v901 : BitVec 1 := Scalar.andi v900 v897
  let v902 : BitVec 32 := Scalar.addi v896 v895
  let v903 : BitVec 32 := Scalar.select v901 v902 v896
  let c1_i32_740 : BitVec 32 := 1#32
  let v906 : BitVec 32 := Scalar.muli v903 c1_i32_740
  let v907 : BitVec 32 := Scalar.addi c0_i32_741 v906
  v907.toNat
def k0_dev36 (d0 : Dev nD) : Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_744 : BitVec 32 := 6#32
  let v914 : BitVec 32 := Scalar.addi v2 c6_i32_744
  let c16_i32_745 : BitVec 32 := 16#32
  let c0_i32_746 : BitVec 32 := 0#32
  let v915 : BitVec 1 := Scalar.cmpi .eq c16_i32_745 c0_i32_746
  let c1_i32_747 : BitVec 32 := 1#32
  let v916 : BitVec 32 := Scalar.select v915 c1_i32_747 c16_i32_745
  let v917 : BitVec 32 := Scalar.remsi v914 v916
  let c0_i32_749 : BitVec 32 := 0#32
  let v919 : BitVec 1 := Scalar.cmpi .slt v917 c0_i32_749
  let c0_i32_750 : BitVec 32 := 0#32
  let v920 : BitVec 1 := Scalar.cmpi .slt v916 c0_i32_750
  let v921 : BitVec 1 := Scalar.xori v919 v920
  let c0_i32_748 : BitVec 32 := 0#32
  let v918 : BitVec 1 := Scalar.cmpi .ne v917 c0_i32_748
  let v922 : BitVec 1 := Scalar.andi v921 v918
  let v923 : BitVec 32 := Scalar.addi v917 v916
  let v924 : BitVec 32 := Scalar.select v922 v923 v917
  let c1_i32_755 : BitVec 32 := 1#32
  let v927 : BitVec 32 := Scalar.muli v924 c1_i32_755
  let v928 : BitVec 32 := Scalar.addi c0_i32_756 v927
  v928.toNat
def k0_dev37 (d0 : Dev nD) : Nat :=
  let c0_i32_771 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_759 : BitVec 32 := 7#32
  let v935 : BitVec 32 := Scalar.addi v2 c7_i32_759
  let c16_i32_760 : BitVec 32 := 16#32
  let c0_i32_761 : BitVec 32 := 0#32
  let v936 : BitVec 1 := Scalar.cmpi .eq c16_i32_760 c0_i32_761
  let c1_i32_762 : BitVec 32 := 1#32
  let v937 : BitVec 32 := Scalar.select v936 c1_i32_762 c16_i32_760
  let v938 : BitVec 32 := Scalar.remsi v935 v937
  let c0_i32_764 : BitVec 32 := 0#32
  let v940 : BitVec 1 := Scalar.cmpi .slt v938 c0_i32_764
  let c0_i32_765 : BitVec 32 := 0#32
  let v941 : BitVec 1 := Scalar.cmpi .slt v937 c0_i32_765
  let v942 : BitVec 1 := Scalar.xori v940 v941
  let c0_i32_763 : BitVec 32 := 0#32
  let v939 : BitVec 1 := Scalar.cmpi .ne v938 c0_i32_763
  let v943 : BitVec 1 := Scalar.andi v942 v939
  let v944 : BitVec 32 := Scalar.addi v938 v937
  let v945 : BitVec 32 := Scalar.select v943 v944 v938
  let c1_i32_770 : BitVec 32 := 1#32
  let v948 : BitVec 32 := Scalar.muli v945 c1_i32_770
  let v949 : BitVec 32 := Scalar.addi c0_i32_771 v948
  v949.toNat
def k0_dev38 (d0 : Dev nD) : Nat :=
  let c0_i32_786 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_774 : BitVec 32 := 8#32
  let v956 : BitVec 32 := Scalar.addi v2 c8_i32_774
  let c16_i32_775 : BitVec 32 := 16#32
  let c0_i32_776 : BitVec 32 := 0#32
  let v957 : BitVec 1 := Scalar.cmpi .eq c16_i32_775 c0_i32_776
  let c1_i32_777 : BitVec 32 := 1#32
  let v958 : BitVec 32 := Scalar.select v957 c1_i32_777 c16_i32_775
  let v959 : BitVec 32 := Scalar.remsi v956 v958
  let c0_i32_779 : BitVec 32 := 0#32
  let v961 : BitVec 1 := Scalar.cmpi .slt v959 c0_i32_779
  let c0_i32_780 : BitVec 32 := 0#32
  let v962 : BitVec 1 := Scalar.cmpi .slt v958 c0_i32_780
  let v963 : BitVec 1 := Scalar.xori v961 v962
  let c0_i32_778 : BitVec 32 := 0#32
  let v960 : BitVec 1 := Scalar.cmpi .ne v959 c0_i32_778
  let v964 : BitVec 1 := Scalar.andi v963 v960
  let v965 : BitVec 32 := Scalar.addi v959 v958
  let v966 : BitVec 32 := Scalar.select v964 v965 v959
  let c1_i32_785 : BitVec 32 := 1#32
  let v969 : BitVec 32 := Scalar.muli v966 c1_i32_785
  let v970 : BitVec 32 := Scalar.addi c0_i32_786 v969
  v970.toNat
def k0_dev39 (d0 : Dev nD) : Nat :=
  let c0_i32_801 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_789 : BitVec 32 := 9#32
  let v977 : BitVec 32 := Scalar.addi v2 c9_i32_789
  let c16_i32_790 : BitVec 32 := 16#32
  let c0_i32_791 : BitVec 32 := 0#32
  let v978 : BitVec 1 := Scalar.cmpi .eq c16_i32_790 c0_i32_791
  let c1_i32_792 : BitVec 32 := 1#32
  let v979 : BitVec 32 := Scalar.select v978 c1_i32_792 c16_i32_790
  let v980 : BitVec 32 := Scalar.remsi v977 v979
  let c0_i32_794 : BitVec 32 := 0#32
  let v982 : BitVec 1 := Scalar.cmpi .slt v980 c0_i32_794
  let c0_i32_795 : BitVec 32 := 0#32
  let v983 : BitVec 1 := Scalar.cmpi .slt v979 c0_i32_795
  let v984 : BitVec 1 := Scalar.xori v982 v983
  let c0_i32_793 : BitVec 32 := 0#32
  let v981 : BitVec 1 := Scalar.cmpi .ne v980 c0_i32_793
  let v985 : BitVec 1 := Scalar.andi v984 v981
  let v986 : BitVec 32 := Scalar.addi v980 v979
  let v987 : BitVec 32 := Scalar.select v985 v986 v980
  let c1_i32_800 : BitVec 32 := 1#32
  let v990 : BitVec 32 := Scalar.muli v987 c1_i32_800
  let v991 : BitVec 32 := Scalar.addi c0_i32_801 v990
  v991.toNat
def k0_dev40 (d0 : Dev nD) : Nat :=
  let c0_i32_816 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_804 : BitVec 32 := 10#32
  let v998 : BitVec 32 := Scalar.addi v2 c10_i32_804
  let c16_i32_805 : BitVec 32 := 16#32
  let c0_i32_806 : BitVec 32 := 0#32
  let v999 : BitVec 1 := Scalar.cmpi .eq c16_i32_805 c0_i32_806
  let c1_i32_807 : BitVec 32 := 1#32
  let v1000 : BitVec 32 := Scalar.select v999 c1_i32_807 c16_i32_805
  let v1001 : BitVec 32 := Scalar.remsi v998 v1000
  let c0_i32_809 : BitVec 32 := 0#32
  let v1003 : BitVec 1 := Scalar.cmpi .slt v1001 c0_i32_809
  let c0_i32_810 : BitVec 32 := 0#32
  let v1004 : BitVec 1 := Scalar.cmpi .slt v1000 c0_i32_810
  let v1005 : BitVec 1 := Scalar.xori v1003 v1004
  let c0_i32_808 : BitVec 32 := 0#32
  let v1002 : BitVec 1 := Scalar.cmpi .ne v1001 c0_i32_808
  let v1006 : BitVec 1 := Scalar.andi v1005 v1002
  let v1007 : BitVec 32 := Scalar.addi v1001 v1000
  let v1008 : BitVec 32 := Scalar.select v1006 v1007 v1001
  let c1_i32_815 : BitVec 32 := 1#32
  let v1011 : BitVec 32 := Scalar.muli v1008 c1_i32_815
  let v1012 : BitVec 32 := Scalar.addi c0_i32_816 v1011
  v1012.toNat
def k0_dev41 (d0 : Dev nD) : Nat :=
  let c0_i32_831 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_819 : BitVec 32 := 11#32
  let v1019 : BitVec 32 := Scalar.addi v2 c11_i32_819
  let c16_i32_820 : BitVec 32 := 16#32
  let c0_i32_821 : BitVec 32 := 0#32
  let v1020 : BitVec 1 := Scalar.cmpi .eq c16_i32_820 c0_i32_821
  let c1_i32_822 : BitVec 32 := 1#32
  let v1021 : BitVec 32 := Scalar.select v1020 c1_i32_822 c16_i32_820
  let v1022 : BitVec 32 := Scalar.remsi v1019 v1021
  let c0_i32_824 : BitVec 32 := 0#32
  let v1024 : BitVec 1 := Scalar.cmpi .slt v1022 c0_i32_824
  let c0_i32_825 : BitVec 32 := 0#32
  let v1025 : BitVec 1 := Scalar.cmpi .slt v1021 c0_i32_825
  let v1026 : BitVec 1 := Scalar.xori v1024 v1025
  let c0_i32_823 : BitVec 32 := 0#32
  let v1023 : BitVec 1 := Scalar.cmpi .ne v1022 c0_i32_823
  let v1027 : BitVec 1 := Scalar.andi v1026 v1023
  let v1028 : BitVec 32 := Scalar.addi v1022 v1021
  let v1029 : BitVec 32 := Scalar.select v1027 v1028 v1022
  let c1_i32_830 : BitVec 32 := 1#32
  let v1032 : BitVec 32 := Scalar.muli v1029 c1_i32_830
  let v1033 : BitVec 32 := Scalar.addi c0_i32_831 v1032
  v1033.toNat
def k0_dev42 (d0 : Dev nD) : Nat :=
  let c0_i32_846 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_834 : BitVec 32 := 12#32
  let v1040 : BitVec 32 := Scalar.addi v2 c12_i32_834
  let c16_i32_835 : BitVec 32 := 16#32
  let c0_i32_836 : BitVec 32 := 0#32
  let v1041 : BitVec 1 := Scalar.cmpi .eq c16_i32_835 c0_i32_836
  let c1_i32_837 : BitVec 32 := 1#32
  let v1042 : BitVec 32 := Scalar.select v1041 c1_i32_837 c16_i32_835
  let v1043 : BitVec 32 := Scalar.remsi v1040 v1042
  let c0_i32_839 : BitVec 32 := 0#32
  let v1045 : BitVec 1 := Scalar.cmpi .slt v1043 c0_i32_839
  let c0_i32_840 : BitVec 32 := 0#32
  let v1046 : BitVec 1 := Scalar.cmpi .slt v1042 c0_i32_840
  let v1047 : BitVec 1 := Scalar.xori v1045 v1046
  let c0_i32_838 : BitVec 32 := 0#32
  let v1044 : BitVec 1 := Scalar.cmpi .ne v1043 c0_i32_838
  let v1048 : BitVec 1 := Scalar.andi v1047 v1044
  let v1049 : BitVec 32 := Scalar.addi v1043 v1042
  let v1050 : BitVec 32 := Scalar.select v1048 v1049 v1043
  let c1_i32_845 : BitVec 32 := 1#32
  let v1053 : BitVec 32 := Scalar.muli v1050 c1_i32_845
  let v1054 : BitVec 32 := Scalar.addi c0_i32_846 v1053
  v1054.toNat
def k0_dev43 (d0 : Dev nD) : Nat :=
  let c0_i32_861 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_849 : BitVec 32 := 13#32
  let v1061 : BitVec 32 := Scalar.addi v2 c13_i32_849
  let c16_i32_850 : BitVec 32 := 16#32
  let c0_i32_851 : BitVec 32 := 0#32
  let v1062 : BitVec 1 := Scalar.cmpi .eq c16_i32_850 c0_i32_851
  let c1_i32_852 : BitVec 32 := 1#32
  let v1063 : BitVec 32 := Scalar.select v1062 c1_i32_852 c16_i32_850
  let v1064 : BitVec 32 := Scalar.remsi v1061 v1063
  let c0_i32_854 : BitVec 32 := 0#32
  let v1066 : BitVec 1 := Scalar.cmpi .slt v1064 c0_i32_854
  let c0_i32_855 : BitVec 32 := 0#32
  let v1067 : BitVec 1 := Scalar.cmpi .slt v1063 c0_i32_855
  let v1068 : BitVec 1 := Scalar.xori v1066 v1067
  let c0_i32_853 : BitVec 32 := 0#32
  let v1065 : BitVec 1 := Scalar.cmpi .ne v1064 c0_i32_853
  let v1069 : BitVec 1 := Scalar.andi v1068 v1065
  let v1070 : BitVec 32 := Scalar.addi v1064 v1063
  let v1071 : BitVec 32 := Scalar.select v1069 v1070 v1064
  let c1_i32_860 : BitVec 32 := 1#32
  let v1074 : BitVec 32 := Scalar.muli v1071 c1_i32_860
  let v1075 : BitVec 32 := Scalar.addi c0_i32_861 v1074
  v1075.toNat
def k0_dev44 (d0 : Dev nD) : Nat :=
  let c0_i32_876 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_864 : BitVec 32 := 14#32
  let v1082 : BitVec 32 := Scalar.addi v2 c14_i32_864
  let c16_i32_865 : BitVec 32 := 16#32
  let c0_i32_866 : BitVec 32 := 0#32
  let v1083 : BitVec 1 := Scalar.cmpi .eq c16_i32_865 c0_i32_866
  let c1_i32_867 : BitVec 32 := 1#32
  let v1084 : BitVec 32 := Scalar.select v1083 c1_i32_867 c16_i32_865
  let v1085 : BitVec 32 := Scalar.remsi v1082 v1084
  let c0_i32_869 : BitVec 32 := 0#32
  let v1087 : BitVec 1 := Scalar.cmpi .slt v1085 c0_i32_869
  let c0_i32_870 : BitVec 32 := 0#32
  let v1088 : BitVec 1 := Scalar.cmpi .slt v1084 c0_i32_870
  let v1089 : BitVec 1 := Scalar.xori v1087 v1088
  let c0_i32_868 : BitVec 32 := 0#32
  let v1086 : BitVec 1 := Scalar.cmpi .ne v1085 c0_i32_868
  let v1090 : BitVec 1 := Scalar.andi v1089 v1086
  let v1091 : BitVec 32 := Scalar.addi v1085 v1084
  let v1092 : BitVec 32 := Scalar.select v1090 v1091 v1085
  let c1_i32_875 : BitVec 32 := 1#32
  let v1095 : BitVec 32 := Scalar.muli v1092 c1_i32_875
  let v1096 : BitVec 32 := Scalar.addi c0_i32_876 v1095
  v1096.toNat
def k0_dev45 (d0 : Dev nD) : Nat :=
  let c0_i32_891 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_879 : BitVec 32 := 15#32
  let v1103 : BitVec 32 := Scalar.addi v2 c15_i32_879
  let c16_i32_880 : BitVec 32 := 16#32
  let c0_i32_881 : BitVec 32 := 0#32
  let v1104 : BitVec 1 := Scalar.cmpi .eq c16_i32_880 c0_i32_881
  let c1_i32_882 : BitVec 32 := 1#32
  let v1105 : BitVec 32 := Scalar.select v1104 c1_i32_882 c16_i32_880
  let v1106 : BitVec 32 := Scalar.remsi v1103 v1105
  let c0_i32_884 : BitVec 32 := 0#32
  let v1108 : BitVec 1 := Scalar.cmpi .slt v1106 c0_i32_884
  let c0_i32_885 : BitVec 32 := 0#32
  let v1109 : BitVec 1 := Scalar.cmpi .slt v1105 c0_i32_885
  let v1110 : BitVec 1 := Scalar.xori v1108 v1109
  let c0_i32_883 : BitVec 32 := 0#32
  let v1107 : BitVec 1 := Scalar.cmpi .ne v1106 c0_i32_883
  let v1111 : BitVec 1 := Scalar.andi v1110 v1107
  let v1112 : BitVec 32 := Scalar.addi v1106 v1105
  let v1113 : BitVec 32 := Scalar.select v1111 v1112 v1106
  let c1_i32_890 : BitVec 32 := 1#32
  let v1116 : BitVec 32 := Scalar.muli v1113 c1_i32_890
  let v1117 : BitVec 32 := Scalar.addi c0_i32_891 v1116
  v1117.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x256 : Shape := ⟨2, ![512, 256]⟩
abbrev S256x64 : Shape := ⟨2, ![256, 64]⟩
abbrev S512x1 : Shape := ⟨2, ![512, 1]⟩
abbrev S64x256x512 : Shape := ⟨3, ![64, 256, 512]⟩
abbrev S256x512 : Shape := ⟨2, ![256, 512]⟩
abbrev S512x64 : Shape := ⟨2, ![512, 64]⟩
abbrev S_ : Shape := ⟨0, ![]⟩
abbrev S512 : Shape := ⟨1, ![512]⟩
abbrev S512x512 : Shape := ⟨2, ![512, 512]⟩
abbrev S512x1x1 : Shape := ⟨3, ![512, 1, 1]⟩
abbrev S1 : Shape := ⟨1, ![1]⟩
abbrev S1x1x1 : Shape := ⟨3, ![1, 1, 1]⟩
abbrev S512x256x512 : Shape := ⟨3, ![512, 256, 512]⟩

abbrev nBuf : Space → Nat
  | .hbm => 70
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x64, .bf16⟩
  | .hbm, ⟨2, _⟩ => ⟨S512x1, .i32⟩
  | .hbm, ⟨3, _⟩ => ⟨S64x256x512, .bf16⟩
  | .hbm, ⟨4, _⟩ => ⟨S256x512, .bf16⟩
  | .hbm, ⟨5, _⟩ => ⟨S512x256, .f32⟩
  | .hbm, ⟨6, _⟩ => ⟨S256x64, .f32⟩
  | .hbm, ⟨7, _⟩ => ⟨S512x64, .f32⟩
  | .hbm, ⟨8, _⟩ => ⟨S_, .f32⟩
  | .hbm, ⟨9, _⟩ => ⟨S512, .f32⟩
  | .hbm, ⟨10, _⟩ => ⟨S512x1, .f32⟩
  | .hbm, ⟨11, _⟩ => ⟨S512x64, .f32⟩
  | .hbm, ⟨12, _⟩ => ⟨S512x64, .f32⟩
  | .hbm, ⟨13, _⟩ => ⟨S512x64, .f32⟩
  | .hbm, ⟨14, _⟩ => ⟨S_, .f32⟩
  | .hbm, ⟨15, _⟩ => ⟨S512, .f32⟩
  | .hbm, ⟨16, _⟩ => ⟨S512x1, .f32⟩
  | .hbm, ⟨17, _⟩ => ⟨S512x64, .f32⟩
  | .hbm, ⟨18, _⟩ => ⟨S512x64, .f32⟩
  | .hbm, ⟨19, _⟩ => ⟨S256x512, .f32⟩
  | .hbm, ⟨20, _⟩ => ⟨S512x512, .f32⟩
  | .hbm, ⟨21, _⟩ => ⟨S512, .i32⟩
  | .hbm, ⟨22, _⟩ => ⟨S_, .i32⟩
  | .hbm, ⟨23, _⟩ => ⟨S512x1, .i32⟩
  | .hbm, ⟨24, _⟩ => ⟨S512x1, .i1⟩
  | .hbm, ⟨25, _⟩ => ⟨S_, .i32⟩
  | .hbm, ⟨26, _⟩ => ⟨S512x1, .i32⟩
  | .hbm, ⟨27, _⟩ => ⟨S512x1, .i32⟩
  | .hbm, ⟨28, _⟩ => ⟨S512x1, .i32⟩
  | .hbm, ⟨29, _⟩ => ⟨S512x1x1, .i32⟩
  | .hbm, ⟨30, _⟩ => ⟨S1, .i32⟩
  | .hbm, ⟨31, _⟩ => ⟨S_, .i32⟩
  | .hbm, ⟨32, _⟩ => ⟨S512x1x1, .i32⟩
  | .hbm, ⟨33, _⟩ => ⟨S512x1x1, .i1⟩
  | .hbm, ⟨34, _⟩ => ⟨S1x1x1, .i32⟩
  | .hbm, ⟨35, _⟩ => ⟨S512x1x1, .i32⟩
  | .hbm, ⟨36, _⟩ => ⟨S512x1x1, .i1⟩
  | .hbm, ⟨37, _⟩ => ⟨S512x1x1, .i1⟩
  | .hbm, ⟨38, _⟩ => ⟨S_, .i1⟩
  | .hbm, ⟨39, _⟩ => ⟨S512x1, .i1⟩
  | .hbm, ⟨40, _⟩ => ⟨S512x1, .f32⟩
  | .hbm, ⟨41, _⟩ => ⟨S_, .f32⟩
  | .hbm, ⟨42, _⟩ => ⟨S512x1, .f32⟩
  | .hbm, ⟨43, _⟩ => ⟨S512x1, .f32⟩
  | .hbm, ⟨44, _⟩ => ⟨S_, .i32⟩
  | .hbm, ⟨45, _⟩ => ⟨S512x1, .i32⟩
  | .hbm, ⟨46, _⟩ => ⟨S512x1, .i1⟩
  | .hbm, ⟨47, _⟩ => ⟨S_, .i32⟩
  | .hbm, ⟨48, _⟩ => ⟨S512x1, .i32⟩
  | .hbm, ⟨49, _⟩ => ⟨S512x1, .i1⟩
  | .hbm, ⟨50, _⟩ => ⟨S512x1, .i1⟩
  | .hbm, ⟨51, _⟩ => ⟨S_, .f32⟩
  | .hbm, ⟨52, _⟩ => ⟨S_, .f32⟩
  | .hbm, ⟨53, _⟩ => ⟨S512x1, .f32⟩
  | .hbm, ⟨54, _⟩ => ⟨S512x1, .f32⟩
  | .hbm, ⟨55, _⟩ => ⟨S64x256x512, .f32⟩
  | .hbm, ⟨56, _⟩ => ⟨S_, .i32⟩
  | .hbm, ⟨57, _⟩ => ⟨S512, .i32⟩
  | .hbm, ⟨58, _⟩ => ⟨S512, .i1⟩
  | .hbm, ⟨59, _⟩ => ⟨S_, .i32⟩
  | .hbm, ⟨60, _⟩ => ⟨S512, .i32⟩
  | .hbm, ⟨61, _⟩ => ⟨S512, .i32⟩
  | .hbm, ⟨62, _⟩ => ⟨S512, .i32⟩
  | .hbm, ⟨63, _⟩ => ⟨S512x1, .i32⟩
  | .hbm, ⟨64, _⟩ => ⟨S512x256x512, .f32⟩
  | .hbm, ⟨65, _⟩ => ⟨S512x512, .f32⟩
  | .hbm, ⟨66, _⟩ => ⟨S512x512, .f32⟩
  | .hbm, ⟨67, _⟩ => ⟨S512x512, .f32⟩
  | .hbm, ⟨68, _⟩ => ⟨S512x512, .f32⟩
  | .hbm, ⟨69, _⟩ => ⟨S512x512, .bf16⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_cst : Ref sig .tc := ⟨.hbm, 41, rfl⟩
abbrev main_call0_v14 : Ref sig .tc := ⟨.hbm, 42, rfl⟩
abbrev main_v15 : Ref sig .tc := ⟨.hbm, 43, rfl⟩
abbrev main_c : Ref sig .tc := ⟨.hbm, 44, rfl⟩
abbrev main_v16 : Ref sig .tc := ⟨.hbm, 45, rfl⟩
abbrev main_v17 : Ref sig .tc := ⟨.hbm, 46, rfl⟩
abbrev main_c_1 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst_2 : Ref sig .tc := ⟨.hbm, 51, rfl⟩
abbrev main_call1_v0 : Ref sig .tc := ⟨.hbm, 52, rfl⟩
abbrev main_call1_v1 : Ref sig .tc := ⟨.hbm, 53, rfl⟩
abbrev main_v21 : Ref sig .tc := ⟨.hbm, 54, rfl⟩
abbrev main_v22 : Ref sig .tc := ⟨.hbm, 55, rfl⟩
abbrev main_c_3 : Ref sig .tc := ⟨.hbm, 56, rfl⟩
abbrev main_v23 : Ref sig .tc := ⟨.hbm, 57, rfl⟩
abbrev main_v24 : Ref sig .tc := ⟨.hbm, 58, rfl⟩
abbrev main_c_4 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩

abbrev nD : Nat := 1
abbrev τ : Topo := Topo.v7x

variable {F : FTy → Type} [FloatOps F]
-- ==== Proof.KI.Views.lean ====
/-
The geometry of the exchange: which device is `k + 1` places along, the two landing buffers and the result buffer cut
into the blocks the transfers move, and the split of each buffer into its blocks.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Ring
public import Idealize.ShloMosaic.Lib.SparseCore.Stream
public import Idealize.ShloMosaic.Lib.ValueIdxCore
public import Idealize.ShloMosaic.Lib.Pipeline.ValueKit.Geometry
public import Idealize.ShloMosaic.Lib.Tactic

@[expose] public section

noncomputable section

namespace Cert.KernelIdeal.Moe

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The sixteen devices around -/

/-- The device `k + 1` places after `c`. -/
def peer (c : Dev nD) (k : Fin 15) : Dev nD := ⟨(c.val + (k.val + 1)) % 16, Nat.mod_lt _ (by decide)⟩
/-- The device `k + 1` places before `c`. -/
def orig (c : Dev nD) (k : Fin 15) : Dev nD := ⟨(c.val + (15 - k.val)) % 16, Nat.mod_lt _ (by decide)⟩
/-- Going `k + 1` places on is undone by going `opp k + 1` places on. -/
def opp (k : Fin 15) : Fin 15 := ⟨14 - k.val, by omega⟩

theorem orig_peer (c : Dev nD) (k : Fin 15) : orig (peer c k) k = c := by
  have hc : c.val < 16 := c.isLt
  apply Fin.ext; simp only [orig, peer]; omega
theorem peer_orig (c : Dev nD) (k : Fin 15) : peer (orig c k) k = c := by
  have hc : c.val < 16 := c.isLt
  apply Fin.ext; simp only [orig, peer]; omega
theorem opp_opp (k : Fin 15) : opp (opp k) = k := by apply Fin.ext; simp only [opp]; omega
theorem orig_opp (c : Dev nD) (k : Fin 15) : orig c (opp k) = peer c k := by
  apply Fin.ext; simp only [orig, peer, opp]; omega
theorem peer_opp (c : Dev nD) (k : Fin 15) : peer c (opp k) = orig c k := by
  apply Fin.ext; simp only [orig, peer, opp]; omega
theorem peer_ne (c : Dev nD) (k : Fin 15) : peer c k ≠ c := by
  have hc : c.val < 16 := c.isLt
  intro h; have := congrArg Fin.val h; simp only [peer] at this; omega
theorem peer_inj (c : Dev nD) {k k' : Fin 15} (h : peer c k = peer c k') : k = k' := by
  have hc : c.val < 16 := c.isLt
  have := congrArg Fin.val h; simp only [peer] at this; apply Fin.ext; omega
theorem orig_inj (c : Dev nD) {k k' : Fin 15} (h : orig c k = orig c k') : k = k' := by
  have hc : c.val < 16 := c.isLt
  have := congrArg Fin.val h; simp only [orig] at this; apply Fin.ext; omega
theorem orig_ne (c : Dev nD) (k : Fin 15) : orig c k ≠ c := by rw [← peer_opp]; exact peer_ne _ _
theorem exists_orig {c e : Dev nD} (h : e ≠ c) : ∃ k, orig c k = e := by
  have hc : c.val < 16 := c.isLt
  have he : e.val < 16 := e.isLt
  have hne : e.val ≠ c.val := fun h' => h (Fin.ext h')
  refine ⟨⟨(c.val + 15 - e.val) % 16, by omega⟩, Fin.ext ?_⟩
  simp only [orig]; omega

def around (k : Fin 15) : Dev nD ≃ Dev nD := ⟨(peer · k), (orig · k), fun c => orig_peer c k, fun c => peer_orig c k⟩
def oppEquiv : Fin 15 ≃ Fin 15 := ⟨opp, opp, opp_opp, opp_opp⟩

/-- All devices are `c` and the fifteen before it. -/
theorem univ_eq (c : Dev nD) : (Finset.univ : Finset (Dev nD)) = insert c (Finset.univ.map ⟨orig c, fun _ _ h => orig_inj c h⟩) := by
  ext e; simp only [Finset.mem_univ, Finset.mem_insert, Finset.mem_map, Function.Embedding.coeFn_mk, true_and, true_iff]
  by_cases h : e = c
  · exact .inl h
  · exact .inr (exists_orig h)

theorem bigSep_devs {M : Type} [URA M] (c : Dev nD) (Φ : Dev nD → sProp M) :
    bigSep Finset.univ Φ = iprop(Φ c ∗ bigSep Finset.univ fun k : Fin 15 => Φ (orig c k)) := by
  rw [univ_eq c, bigSep_insert (by
    simp only [Finset.mem_map, Finset.mem_univ, true_and, Function.Embedding.coeFn_mk, not_exists]; exact orig_ne c), bigSep_map]
  rfl
theorem bigSep_opp {M : Type} [URA M] (Φ : Fin 15 → sProp M) :
    bigSep Finset.univ Φ = bigSep Finset.univ fun k : Fin 15 => Φ (opp k) := bigSep_univ_equiv oppEquiv Φ
theorem bigSep_devs' {M : Type} [URA M] (c : Dev nD) (Φ : Dev nD → sProp M) :
    bigSep Finset.univ Φ = iprop(Φ c ∗ bigSep Finset.univ fun k : Fin 15 => Φ (peer c k)) := by
  rw [bigSep_devs c, bigSep_opp]; simp only [orig_opp]

/-! ## What is left of the fifteen, and what is done -/

def ge (n : ℕ) : Finset (Fin 15) := Finset.univ.filter fun k => n ≤ k.val
def lt (n : ℕ) : Finset (Fin 15) := Finset.univ.filter fun k => k.val < n

theorem ge_zero : ge 0 = Finset.univ := by decide
theorem ge_end : ge 15 = ∅ := by decide
theorem lt_zero : lt 0 = ∅ := by decide
theorem lt_end : lt 15 = Finset.univ := by decide
theorem ge_step (k : Fin 15) : ge k.val = insert k (ge (k.val + 1)) := by revert k; decide
theorem ge_not (k : Fin 15) : k ∉ ge (k.val + 1) := by revert k; decide
theorem lt_step (k : Fin 15) : lt (k.val + 1) = insert k (lt k.val) := by revert k; decide
theorem lt_not (k : Fin 15) : k ∉ lt k.val := by revert k; decide

theorem bigSep_ge {M : Type} [URA M] (k : Fin 15) (Φ : Fin 15 → sProp M) :
    bigSep (ge k.val) Φ = iprop(Φ k ∗ bigSep (ge (k.val + 1)) Φ) := by
  rw [ge_step, bigSep_insert (ge_not k)]; rfl
theorem bigSep_lt {M : Type} [URA M] (k : Fin 15) (Φ : Fin 15 → sProp M) :
    bigSep (lt (k.val + 1)) Φ = iprop(Φ k ∗ bigSep (lt k.val) Φ) := by
  rw [lt_step, bigSep_insert (lt_not k)]; rfl

/-! ## The blocks -/

abbrev xM : Memref sig .tc .vmem S512x256 .bf16 := Memref.whole cc0_stg0_0
abbrev rwM : Memref sig .tc .vmem S256x64 .bf16 := Memref.whole cc0_stg1_0
abbrev ixM : Memref sig .tc .vmem S512x1 .i32 := Memref.whole cc0_stg2_0
abbrev ewM : Memref sig .tc .vmem S4x256x512 .bf16 := Memref.whole cc0_stg3_0
abbrev swM : Memref sig .tc .vmem S256x512 .bf16 := Memref.whole cc0_stg4_0
abbrev oM : Memref sig .tc .vmem S512x512 .bf16 := Memref.whole cc0_stg5_0
abbrev aM : Memref sig .tc .vmem S16x32x512 .bf16 := Memref.whole cc0_scratch0
abbrev bM : Memref sig .tc .vmem S15x32x512 .bf16 := Memref.whole cc0_scratch1

theorem inbA (j : Dev nD) : ∀ a, (![j.val, 0, 0] : Fin 3 → Nat) a + S1x32x512.size a ≤ S16x32x512.size a := by
  have := j.isLt; intro a; fin_cases a
  · show j.val + 1 ≤ 16; change j.val < 16 at this; omega
  · show 0 + 32 ≤ 32; omega
  · show 0 + 512 ≤ 512; omega
theorem inbB (k : Fin 15) : ∀ a, (![k.val, 0, 0] : Fin 3 → Nat) a + S1x32x512.size a ≤ S15x32x512.size a := by
  have := k.isLt; intro a; fin_cases a
  · show k.val + 1 ≤ 15; omega
  · show 0 + 32 ≤ 32; omega
  · show 0 + 512 ≤ 512; omega
theorem inbO (j : Dev nD) : ∀ a, (![32 * j.val, 0] : Fin 2 → Nat) a + S32x512.size a ≤ S512x512.size a := by
  have := j.isLt; intro a; fin_cases a
  · show 32 * j.val + 32 ≤ 512; change j.val < 16 at this; omega
  · show 0 + 512 ≤ 512; omega

/-- Block `j` of the partial sums, block `k` of the landing buffer, rows `32 j … 32 j + 31` of the result. -/
abbrev rA (j : Dev nD) : Rect S16x32x512 := Rect.unit (s := S16x32x512) ![j.val, 0, 0] S1x32x512.size (inbA j)
abbrev rB (k : Fin 15) : Rect S15x32x512 := Rect.unit (s := S15x32x512) ![k.val, 0, 0] S1x32x512.size (inbB k)
abbrev rO (j : Dev nD) : Rect S512x512 := Rect.unit (s := S512x512) ![32 * j.val, 0] S32x512.size (inbO j)
abbrev aS (j : Dev nD) : Memref sig .tc .vmem S32x512 .bf16 := (aM.slice (rA j) (fun _ => rfl)).squeeze S32x512 squeezes_S1x32x512_S32x512
abbrev bS (k : Fin 15) : Memref sig .tc .vmem S32x512 .bf16 := (bM.slice (rB k) (fun _ => rfl)).squeeze S32x512 squeezes_S1x32x512_S32x512
abbrev oS (j : Dev nD) : Memref sig .tc .vmem S32x512 .bf16 := oM.slice (rO j) (fun _ => rfl)

/-- The units every transfer of a block credits. -/
abbrev N : ℕ := (bS 0).view.dmaCredit
theorem N_pos : 0 < N := View.dmaCredit_pos _ (by decide)
theorem credA (j : Dev nD) : (aS j).view.dmaCredit = N := rfl
theorem credB (k : Fin 15) : (bS k).view.dmaCredit = N := rfl
theorem credO (j : Dev nD) : (oS j).view.dmaCredit = N := rfl

/-! ### The printed offsets -/

theorem offA_eq (c : Dev nD) (k : Fin 15) : k0_off1 c (BitVec.ofNat 32 (1 + k.val)) = ![(peer c k).val, 0, 0] := by
  revert c k; decide
theorem off2_eq (c : Dev nD) : k0_off2 c = ![c.val, 0, 0] := by revert c; decide
theorem off3_eq (c : Dev nD) : k0_off3 c = ![32 * c.val, 0] := by revert c; decide
theorem off4_eq (c : Dev nD) : k0_off4 c = ![32 * c.val, 0] := by revert c; decide

theorem aS_of {o : Fin 3 → Nat} {j : Dev nD} (h : o = ![j.val, 0, 0]) (hb : ∀ a, o a + S1x32x512.size a ≤ S16x32x512.size a) :
    (aM.slice (Rect.unit (s := S16x32x512) o S1x32x512.size hb) (fun _ => rfl)).squeeze S32x512 squeezes_S1x32x512_S32x512 = aS j := by
  subst h; rfl
theorem aS_eq (c : Dev nD) (k : Fin 15) :
    (aM.slice (Rect.unit (s := S16x32x512) (k0_off1 c (BitVec.ofNat 32 (1 + k.val))) S1x32x512.size (k0_off1_inb c k)) (fun _ => rfl)).squeeze S32x512
      squeezes_S1x32x512_S32x512 = aS (peer c k) := aS_of (offA_eq c k) _
theorem unit_of {s : Shape} {o o' : Fin s.rank → Nat} (h : o = o') (size : Fin s.rank → Nat) (hb : ∀ a, o a + size a ≤ s.size a) (hb' : ∀ a, o' a + size a ≤ s.size a) :
    Rect.unit (s := s) o size hb = Rect.unit o' size hb' := by subst h; rfl
theorem rA_eq (c : Dev nD) : Rect.unit (s := S16x32x512) (k0_off2 c) S1x32x512.size (k0_off2_inb c) = rA c := unit_of (off2_eq c) _ _ _
theorem rO_eq3 (c : Dev nD) : Rect.unit (s := S512x512) (k0_off3 c) S32x512.size (k0_off3_inb c) = rO c := unit_of (off3_eq c) _ _ _
theorem oS_of {o : Fin 2 → Nat} {j : Dev nD} (h : o = ![32 * j.val, 0]) (hb : ∀ a, o a + S32x512.size a ≤ S512x512.size a) :
    oM.slice (Rect.unit (s := S512x512) o S32x512.size hb) (fun _ => rfl) = oS j := by subst h; rfl
theorem oS_eq (c : Dev nD) : oM.slice (Rect.unit (s := S512x512) (k0_off4 c) S32x512.size (k0_off4_inb c)) (fun _ => rfl) = oS c := oS_of (off4_eq c) _

/-! ### The blocks cover their buffers, no two meeting -/

theorem aS_set (j : Dev nD) : (aS j).view.set = (rA j).set := by
  show ((((View.whole cc0_scratch0).slice (rA j)).reshape _ _ : View sig .tc _ _ _)).set = _
  rw [View.set_reshape, View.set_slice_whole]
theorem bS_set (k : Fin 15) : (bS k).view.set = (rB k).set := by
  show ((((View.whole cc0_scratch1).slice (rB k)).reshape _ _ : View sig .tc _ _ _)).set = _
  rw [View.set_reshape, View.set_slice_whole]
theorem oS_set (j : Dev nD) : (oS j).view.set = (rO j).set := by
  show (((View.whole cc0_stg5_0).slice (rO j) : View sig .tc _ _ _)).set = _
  rw [View.set_slice_whole]

theorem mem_rA (j : Dev nD) (i : S16x32x512.Idx) : i ∈ (rA j).set ↔ (i 0).val = j.val := by
  rw [Rect.mem_set_unit]
  have h1 : (i 1).val < 32 := (i 1).isLt
  have h2 : (i 2).val < 512 := (i 2).isLt
  constructor
  · intro h; have := h 0; change j.val ≤ (i 0).val ∧ (i 0).val < j.val + 1 at this; omega
  · intro h a; fin_cases a
    · show j.val ≤ (i 0).val ∧ (i 0).val < j.val + 1; omega
    · show 0 ≤ (i 1).val ∧ (i 1).val < 0 + 32; omega
    · show 0 ≤ (i 2).val ∧ (i 2).val < 0 + 512; omega
theorem mem_rB (j : Fin 15) (i : S15x32x512.Idx) : i ∈ (rB j).set ↔ (i 0).val = j.val := by
  rw [Rect.mem_set_unit]
  have h1 : (i 1).val < 32 := (i 1).isLt
  have h2 : (i 2).val < 512 := (i 2).isLt
  constructor
  · intro h; have := h 0; change j.val ≤ (i 0).val ∧ (i 0).val < j.val + 1 at this; omega
  · intro h a; fin_cases a
    · show j.val ≤ (i 0).val ∧ (i 0).val < j.val + 1; omega
    · show 0 ≤ (i 1).val ∧ (i 1).val < 0 + 32; omega
    · show 0 ≤ (i 2).val ∧ (i 2).val < 0 + 512; omega
theorem mem_rO (j : Dev nD) (i : S512x512.Idx) : i ∈ (rO j).set ↔ (i 0).val / 32 = j.val := by
  rw [Rect.mem_set_unit]
  have h1 : (i 1).val < 512 := (i 1).isLt
  constructor
  · intro h; have := h 0; change 32 * j.val ≤ (i 0).val ∧ (i 0).val < 32 * j.val + 32 at this; omega
  · intro h a; fin_cases a
    · show 32 * j.val ≤ (i 0).val ∧ (i 0).val < 32 * j.val + 32; omega
    · show 0 ≤ (i 1).val ∧ (i 1).val < 0 + 512; omega

theorem rA_disj (j j' : Dev nD) (h : j ≠ j') : Disjoint (rA j).set (rA j').set := by
  exact Finset.disjoint_left.mpr fun i hi hi' => h (Fin.ext (((mem_rA j i).mp hi).symm.trans ((mem_rA j' i).mp hi')))
theorem rB_disj (j j' : Fin 15) (h : j ≠ j') : Disjoint (rB j).set (rB j').set := by
  exact Finset.disjoint_left.mpr fun i hi hi' => h (Fin.ext (((mem_rB j i).mp hi).symm.trans ((mem_rB j' i).mp hi')))
theorem rO_disj (j j' : Dev nD) (h : j ≠ j') : Disjoint (rO j).set (rO j').set := by
  exact Finset.disjoint_left.mpr fun i hi hi' => h (Fin.ext (((mem_rO j i).mp hi).symm.trans ((mem_rO j' i).mp hi')))

/-! ### Where an element of a block lies -/

theorem reshape_block (h : S32x512.numel = S1x32x512.numel) (i : S32x512.Idx) : Shape.reshapeEquiv h i = (ix3 (0 : Fin 1) (i 0) (i 1) : S1x32x512.Idx) := by
  refine Shape.reshapeEquiv_eq_of_rowMajor h ?_
  rw [Shape.rowMajor_val_three, Shape.rowMajor_val_two]
  show ((0 : ℕ) * 32 + (i 0).val) * 512 + (i 1).val = (i 0).val * 512 + (i 1).val
  omega
theorem aS_emb (j : Dev nD) (i : S32x512.Idx) : (aS j).view.emb i = (ix3 (⟨j.val, j.isLt⟩ : Fin 16) (i 0) (i 1) : S16x32x512.Idx) := by
  show (rA j).emb (Shape.reshapeEquiv _ i) = _
  rw [reshape_block]
  funext a; apply Fin.ext; rw [ValueKit.rect_emb_unit_val]
  match a with
  | 0 => show j.val + 0 = j.val; omega
  | 1 => show 0 + (i 0).val = (i 0).val; omega
  | 2 => show 0 + (i 1).val = (i 1).val; omega
theorem bS_emb (j : Fin 15) (i : S32x512.Idx) : (bS j).view.emb i = (ix3 j (i 0) (i 1) : S15x32x512.Idx) := by
  show (rB j).emb (Shape.reshapeEquiv _ i) = _
  rw [reshape_block]
  funext a; apply Fin.ext; rw [ValueKit.rect_emb_unit_val]
  match a with
  | 0 => show j.val + 0 = j.val; omega
  | 1 => show 0 + (i 0).val = (i 0).val; omega
  | 2 => show 0 + (i 1).val = (i 1).val; omega
/-- Row `i` of the rows of device `j`. -/
def row (j : Dev nD) (i : Fin 32) : Fin 512 := ⟨32 * j.val + i.val, by have h := j.isLt; change j.val < 16 at h; omega⟩
theorem oS_emb (j : Dev nD) (i : S32x512.Idx) : (oS j).view.emb i = (ix2 (row j (i 0)) (i 1) : S512x512.Idx) := by
  show (rO j).emb i = _
  funext a; apply Fin.ext; rw [ValueKit.rect_emb_unit_val]
  match a with
  | 0 => rfl
  | 1 => show 0 + (i 1).val = (i 1).val; omega

end Cert.KernelIdeal.Moe

end
-- ==== Proof.KI.Protocol.lean ====
/-
The exchange's protocol. Every device's barrier semaphore gets one unit from each of the fifteen others; a unit hands
over the sender's landing block and the sender's rows of the result the receiver will write. Each transfer of the
reduce-scatter (semaphore families 0 and 1) and of the all-gather (families 2 and 3) credits its sender's cell, giving
the source back, and its receiver's cell, giving the block landed with the sender's contents.
-/
module

public import proofs.«01_k».proof.Proof.KI.Views

@[expose] public section

noncomputable section

namespace Cert.KernelIdeal.Moe

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The cells -/

abbrev barS : Sem sig := (SemArray.scalar (sig.barrier 0 rfl) : Sems sig S_).sem

/-- Which of a device's cells: the barrier, or the `k`-th of one of the four families. -/
abbrev CI : Type := Option (Fin 4 × Fin 15)

def dnum (qk : Fin 4 × Fin 15) : DmaSem sig := ⟨6 + 15 * qk.1.val + qk.2.val, by
  have := qk.1.isLt; have := qk.2.isLt; show _ < 66; omega⟩
def csem : CI → SemLoc sig | none => .reg barS | some qk => .dma (dnum qk)
abbrev cell (c : Dev nD) (i : CI) : GSem nD τ sig := ((c : Thread nD τ), csem i)

/-- Which cell a semaphore is. -/
def dec : SemLoc sig → Option CI
  | .reg s => if s = barS then some none else none
  | .dma n => if h : 6 ≤ n.val then some (some (⟨(n.val - 6) / 15, by have : n.val < 66 := n.isLt; omega⟩, ⟨(n.val - 6) % 15, by omega⟩)) else none

theorem dec_csem (i : CI) : dec (csem i) = some i := by
  rcases i with _ | ⟨q, k⟩
  · show (if barS = barS then some none else none) = _; rw [if_pos rfl]
  · have h : 6 ≤ (dnum (q, k)).val := by simp only [dnum]; omega
    simp only [csem, dec]; rw [dif_pos h]
    simp only [dnum, Option.some.injEq, Prod.mk.injEq, Fin.ext_iff]
    omega
theorem csem_inj {i i' : CI} (h : csem i = csem i') : i = i' := by
  have := congrArg dec h; rw [dec_csem, dec_csem] at this; exact Option.some.inj this
theorem cell_inj {c c' : Dev nD} {i i' : CI} (h : cell c i = cell c' i') : c = c' ∧ i = i' :=
  ⟨congrArg (fun g : GSem nD τ sig => g.1.1) h, csem_inj (congrArg Prod.snd h)⟩

/-! ## The contents -/

/-- The device's word, as the kernel computes it. -/
abbrev wd (c : Dev nD) : BitVec 32 := Scalar.remsi (Scalar.divsi (Dev.word c) 1#32) 16#32
abbrev inX (c : Dev nD) : Vec F S512x256 .bf16 := iblk m c 0 t0_0
abbrev inR (c : Dev nD) : Vec F S256x64 .bf16 := iblk m c 1 t0_0
abbrev inI (c : Dev nD) : Vec F S512x1 .i32 := iblk m c 2 t0_0
abbrev inE (c : Dev nD) : Vec F S4x256x512 .bf16 := iblk m c 3 t0_0
abbrev inS (c : Dev nD) : Vec F S256x512 .bf16 := iblk m c 4 t0_0

/-- What device `c`'s experts contribute to every token, token block by token block. -/
def accF (c : Dev nD) : Vec F S16x32x512 .bf16 :=
  k0_pay7 (wd c) (k0_pay2 (inX m c)) (k0_pay3 (inI m c)) (k0_pay4 (inX m c) (inR m c) (inI m c)) (k0_pay5 (wd c) (inX m c) (inR m c) (inI m c))
    (k0_pay6 (wd c) (inI m c)) (Scalar.ofBits .f32 0x00000000#32) (inE m c)
/-- What lands in device `c`'s fifteen blocks: the others' contributions to its token block. -/
def rsF (c : Dev nD) : Vec F S15x32x512 .bf16 := fun i => accF m (orig c (i 0)) (ix3 (⟨c.val, c.isLt⟩ : Fin 16) (i 1) (i 2))
def ownF (c : Dev nD) : Vec F S1x32x512 .bf16 := fun i => accF m c (ix3 (⟨c.val, c.isLt⟩ : Fin 16) (i 1) (i 2))
/-- The sum over the devices of the contributions to device `c`'s token block. -/
def redF (c : Dev nD) : Vec F S32x512 .bf16 := k0_pay9 (ownF m c) (rsF m c)
/-- All of them, as gathered. -/
def agF : Vec F S512x512 .bf16 := fun i =>
  redF m ⟨(i 0).val / 32, by have : (i 0).val < 512 := (i 0).isLt; show _ < 16; omega⟩
    (ix2 (⟨(i 0).val % 32, Nat.mod_lt _ (by decide)⟩ : Fin 32) (i 1))
/-- The result, with the shared expert. -/
def outF (c : Dev nD) : Vec F S512x512 .bf16 := k0_pay1 (k0_pay8 (k0_pay2 (inX m c)) (inS m c)) (agF m)

omit [FloatOps F] in
theorem dev_row (j : Dev nD) (i : Fin 32) (h) : (⟨(row j i).val / 32, h⟩ : Dev nD) = j := by
  apply Fin.ext; simp only [row]; omega
theorem agF_row (j : Dev nD) (i : Fin 32) (l : Fin 512) : agF m (ix2 (row j i) l) = redF m j (ix2 i l) := by
  unfold agF
  have h1 : (⟨(ix2 (row j i) l (0 : Fin 2)).val / 32, by have : (ix2 (row j i) l (0 : Fin 2)).val < 512 := (row j i).isLt; show _ < 16; omega⟩ : Dev nD) = j :=
    dev_row j i _
  have h2 : (⟨(ix2 (row j i) l (0 : Fin 2)).val % 32, Nat.mod_lt _ (by decide)⟩ : Fin 32) = i := by
    apply Fin.ext; show (32 * j.val + i.val) % 32 = i.val; omega
  exact congrArg₂ (fun a b => redF m a (ix2 b l)) h1 h2

/-! ## Holding a block -/

def mPts (M : Memref sig .tc .vmem S32x512 .bf16) (c : Dev nD) (q : PosShare TreeShare) (f : Buf (Elt F) (M.view.loc (c : Thread nD τ))) : sProp 𝕄 :=
  M.view.loc (c : Thread nD τ) ↦[M.view.set]{q} f

omit [FloatOps F] in
instance mPts_storable (M : Memref sig .tc .vmem S32x512 .bf16) (c : Dev nD) (q) (f) : BI.Storable (upEmb : UEmb _ 𝕄) (mPts (F := F) M c q f) := by
  unfold mPts; infer_instance

omit [FloatOps F] in
/-- A block landed is held at any contents that read the same. -/
theorem landed (M M' : Memref sig .tc .vmem S32x512 .bf16) (c c' : Dev nD) (q : PosShare TreeShare)
    (f : Buf (Elt F) (M.view.loc (c : Thread nD τ))) (fd g : Buf (Elt F) (M'.view.loc (c' : Thread nD τ)))
    (h : M.view.read (Elt F) f = M'.view.read (Elt F) g) :
    (M'.view.loc (c' : Thread nD τ) ↦[M'.view.set]{q} M'.view.write (Elt F) fd (M.view.read (Elt F) f) Finset.univ) = mPts (F := F) M' c' q g := by
  unfold mPts
  rw [h, View.write_read_eq_piecewise]
  exact pointsTo_congr fun i hi => Finset.piecewise_eq_of_mem _ _ _ hi

theorem rs_reads (c : Dev nD) (k : Fin 15) :
    (aS (peer c k)).view.read (Elt F) (accF m c) = (bS k).view.read (Elt F) (rsF m (peer c k)) := by
  funext i
  show accF m c ((aS (peer c k)).view.emb i) = rsF m (peer c k) ((bS k).view.emb i)
  rw [aS_emb, bS_emb]
  show _ = accF m (orig (peer c k) k) _
  rw [orig_peer]

/-! ## The schedule -/

/-- The share of the rows one of the fifteen copies of the gather reads. -/
abbrev piece15 (k : Fin 15) : PosShare TreeShare := pieceOf fullShare 15 (by decide) k

def barPay (e : Dev nD) (k : Fin 15) : sProp 𝕄 :=
  iprop((∃ f, mPts (F := F) (bS (opp k)) (orig e k) fullShare f) ∗ ∃ f, mPts (F := F) (oS e) (orig e k) fullShare f)

def dmaPay (c : Dev nD) (q : Fin 4) (k : Fin 15) : sProp 𝕄 := match q with
  | 0 => mPts (F := F) (aS (peer c k)) c fullShare (accF m c)
  | 1 => mPts (F := F) (bS k) c fullShare (rsF m c)
  | 2 => mPts (F := F) (oS c) c (piece15 k) (agF m)
  | 3 => mPts (F := F) (oS (orig c k)) c fullShare (agF m)

instance dmaPay_storable (c : Dev nD) (q : Fin 4) (k : Fin 15) : BI.Storable (upEmb : UEmb _ 𝕄) (dmaPay m c q k) := by
  unfold dmaPay; split <;> infer_instance
omit [FloatOps F] in
instance barPay_storable (e : Dev nD) (k : Fin 15) : BI.Storable (upEmb : UEmb _ 𝕄) (barPay (F := F) e k) := by
  unfold barPay; infer_instance

def Rd : Rounds.Schedule (GSem nD τ sig) (Fin 15) 𝕄 where
  duties g r := if r = 0 ∧ g.1.2 = .tc then (match dec g.2 with | none => ∅ | some none => Finset.univ | some (some _) => {0}) else ∅
  unitless _ := False
  amount g _ _ := match dec g.2 with | some (some _) => N | _ => 1
  payload g _ d := match dec g.2 with | none => iprop(emp) | some none => barPay g.1.1 d | some (some qk) => dmaPay m g.1.1 qk.1 qk.2
  amount_pos g _ _ _ := by split; exact N_pos; exact Nat.one_pos

instance Rd_storable (g : GSem nD τ sig) (r : ℕ) (d : Fin 15) : BI.Storable (upEmb : UEmb _ 𝕄) ((Rd (F := F) m).payload g r d) := by
  show BI.Storable upEmb (match dec g.2 with | none => iprop(emp) | some none => barPay g.1.1 d | some (some qk) => dmaPay m g.1.1 qk.1 qk.2)
  split <;> infer_instance

theorem duties_bar (c : Dev nD) : (Rd (F := F) m).duties (cell c none) 0 = Finset.univ := by
  dsimp only [Rd]; rw [if_pos ⟨rfl, rfl⟩, dec_csem]
theorem duties_dma (c : Dev nD) (qk : Fin 4 × Fin 15) : (Rd (F := F) m).duties (cell c (some qk)) 0 = {0} := by
  dsimp only [Rd]; rw [if_pos ⟨rfl, rfl⟩, dec_csem]
theorem duties_later (g : GSem nD τ sig) : ∀ r, 1 ≤ r → (Rd (F := F) m).duties g r = ∅ :=
  fun r hr => by dsimp only [Rd]; rw [if_neg fun h => by omega]
theorem amount_bar (c : Dev nD) (d : Fin 15) : (Rd (F := F) m).amount (cell c none) 0 d = 1 := by dsimp only [Rd]; rw [dec_csem]
theorem amount_dma (c : Dev nD) (qk : Fin 4 × Fin 15) (d : Fin 15) : (Rd (F := F) m).amount (cell c (some qk)) 0 d = N := by
  dsimp only [Rd]; rw [dec_csem]
theorem payload_bar (c : Dev nD) (d : Fin 15) : (Rd (F := F) m).payload (cell c none) 0 d = barPay c d := by dsimp only [Rd]; rw [dec_csem]
theorem payload_dma (c : Dev nD) (qk : Fin 4 × Fin 15) (d : Fin 15) : (Rd (F := F) m).payload (cell c (some qk)) 0 d = dmaPay m c qk.1 qk.2 := by
  dsimp only [Rd]; rw [dec_csem]
theorem expect_bar (c : Dev nD) : (Rd (F := F) m).expect (cell c none) 0 = 15 := by
  unfold Schedule.expect Schedule.amountOf
  rw [duties_bar, Finset.sum_congr rfl fun d _ => amount_bar m c d, Finset.sum_const, Finset.card_univ, Fintype.card_fin, smul_eq_mul]
theorem expect_dma (c : Dev nD) (qk : Fin 4 × Fin 15) : (Rd (F := F) m).expect (cell c (some qk)) 0 = N := by
  unfold Schedule.expect Schedule.amountOf; rw [duties_dma, Finset.sum_singleton, amount_dma]

/-! ## What a device owes; the levels -/

abbrev T : Type := CellTallies nD τ sig Unit

def dueBar (c : Dev nD) (n : ℕ) : T := ∑ k ∈ ge n, tallyAt (cell (peer c k) none) () 1
/-- The landings a device still owes of its transfers onto family `q`. -/
def dueTo (q : Fin 4) (c : Dev nD) (n : ℕ) : T := ∑ k ∈ ge n, tallyAt (cell (peer c k) (some (q, k))) () N
def O₀ (c : Dev nD) : T := (dueTo 3 c 0 + dueTo 1 c 0) + dueBar c 0

theorem dueBar_step (c : Dev nD) (k : Fin 15) : dueBar c k.val = dueBar c (k.val + 1) + tallyAt (cell (peer c k) none) () 1 := by
  unfold dueBar; rw [ge_step, Finset.sum_insert (ge_not k), add_comm]
theorem dueTo_step (q : Fin 4) (c : Dev nD) (k : Fin 15) :
    dueTo q c k.val = dueTo q c (k.val + 1) + tallyAt (cell (peer c k) (some (q, k))) () N := by
  unfold dueTo; rw [ge_step, Finset.sum_insert (ge_not k), add_comm]
theorem dueBar_end (c : Dev nD) : dueBar c 15 = 0 := by unfold dueBar; rw [ge_end, Finset.sum_empty]
theorem dueTo_end (q : Fin 4) (c : Dev nD) : dueTo q c 15 = 0 := by unfold dueTo; rw [ge_end, Finset.sum_empty]

theorem sum_pos {s : Finset (Fin 15)} {f : Fin 15 → GSem nD τ sig} {a : ℕ} {g : GSem nD τ sig} {u : Unit}
    (h : 0 < (∑ k ∈ s, tallyAt (f k) () a : T) g u) : ∃ k, g = f k := by
  rw [Finset.sum_apply, Finsupp.finset_sum_apply] at h
  obtain ⟨k, -, hk⟩ := Finset.exists_ne_zero_of_sum_ne_zero h.ne'
  refine ⟨k, ?_⟩
  by_contra hn
  rw [tallyAt_apply, if_neg fun h' => hn h'.1] at hk
  exact hk rfl

def L (g : GSem nD τ sig) : Finset Unit := if g.1.2 = .tc then {()} else ∅
/-- Barrier cells below the landings of the reduce-scatter, those below the all-gather's; staging and sends at the bottom. -/
def lv (g : GSem nD τ sig) (_ : Unit) : ℕ := match dec g.2 with
  | some none => 1 | some (some qk) => ![0, 2, 0, 3] qk.1 | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (cell c none) () = 1 := by dsimp only [lv]; rw [dec_csem]
theorem lv_1 (c : Dev nD) (k : Fin 15) : lv (cell c (some (1, k))) () = 2 := by dsimp only [lv]; rw [dec_csem]; rfl
theorem lv_0 (c : Dev nD) (k : Fin 15) : lv (cell c (some (0, k))) () = 0 := by dsimp only [lv]; rw [dec_csem]; rfl
theorem lv_2 (c : Dev nD) (k : Fin 15) : lv (cell c (some (2, k))) () = 0 := by dsimp only [lv]; rw [dec_csem]; rfl
theorem lv_3 (c : Dev nD) (k : Fin 15) : lv (cell c (some (3, k))) () = 3 := by dsimp only [lv]; rw [dec_csem]; rfl

theorem due_at {O : T} {c : Dev nD} (n₃ n₁ n₀ : ℕ) (h : O = dueTo 3 c n₃ + dueTo 1 c n₁ + dueBar c n₀) {g : GSem nD τ sig} {u : Unit} (hp : 0 < O g u) :
    (∃ k, g = cell (peer c k) (some (3, k))) ∨ (∃ k, g = cell (peer c k) (some (1, k))) ∨ ∃ k, g = cell (peer c k) none := by
  subst h
  rw [Pi.add_apply, Finsupp.add_apply, Pi.add_apply, Finsupp.add_apply] at hp
  rcases Nat.pos_iff_ne_zero.mp hp |> fun h => (by omega : 0 < (dueTo 3 c n₃ g u) ∨ 0 < (dueTo 1 c n₁ g u) ∨ 0 < (dueBar c n₀ g u)) with h | h | h
  · exact .inl (sum_pos h)
  · exact .inr (.inl (sum_pos h))
  · exact .inr (.inr (sum_pos h))

omit [FloatOps F] in
/-- A wait below everything still owed. -/
theorem mayWait (c : Dev nD) (sm : SemLoc sig) (O : T) (b : ℕ) (hb : lv ((c : Thread nD τ), sm) () = b)
    (hO : ∀ g u, 0 < O g u → g.1.2 = .tc ∧ b < lv g u) : (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hb.le)
    (fun g u hg => (hO g u hg).2)

omit [FloatOps F] in
theorem mayWait_low (c : Dev nD) (sm : SemLoc sig) (hb : lv ((c : Thread nD τ), sm) () = 0) {O : T} (n₃ n₁ n₀ : ℕ)
    (h : O = dueTo 3 c n₃ + dueTo 1 c n₁ + dueBar c n₀) : (levAts L lv : sProp 𝕄) ⊢ MayWait (c : Thread nD τ) sm () O :=
  mayWait c sm O 0 hb fun g u hg => by
    rcases due_at n₃ n₁ n₀ h hg with ⟨k, rfl⟩ | ⟨k, rfl⟩ | ⟨k, rfl⟩
    · exact ⟨rfl, by rw [lv_3]; decide⟩
    · exact ⟨rfl, by rw [lv_1]; decide⟩
    · exact ⟨rfl, by rw [lv_bar]; decide⟩
omit [FloatOps F] in
theorem mayWait_bar (c : Dev nD) : (levAts L lv : sProp 𝕄) ⊢ MayWait (c : Thread nD τ) (.reg barS) () (dueTo 3 c 0 + dueTo 1 c 0) :=
  mayWait c _ _ 1 (lv_bar c) fun g u hg => by
    rw [Pi.add_apply, Finsupp.add_apply] at hg
    rcases (by omega : 0 < (dueTo 3 c 0 g u) ∨ 0 < (dueTo 1 c 0 g u)) with h | h
    · obtain ⟨k, rfl⟩ := sum_pos h; exact ⟨rfl, by rw [lv_3]; decide⟩
    · obtain ⟨k, rfl⟩ := sum_pos h; exact ⟨rfl, by rw [lv_1]; decide⟩
omit [FloatOps F] in
theorem mayWait_rs (c : Dev nD) (k : Fin 15) : (levAts L lv : sProp 𝕄) ⊢ MayWait (c : Thread nD τ) (csem (some (1, k))) () (dueTo 3 c 0) :=
  mayWait c _ _ 2 (lv_1 c k) fun g u hg => by
    obtain ⟨k, rfl⟩ := sum_pos hg; exact ⟨rfl, by rw [lv_3]; decide⟩

end Cert.KernelIdeal.Moe

end
-- ==== Proof.KI.Steps.lean ====
/-
One rule for each kind of effect of the exchange, stated over what is still to do and what is done: the next signal, the
next transfer of either phase, the next wait on a family, and the one wait on the barrier.
-/
module

public import proofs.«01_k».proof.Proof.KI.Protocol

@[expose] public section

noncomputable section

namespace Cert.KernelIdeal.Moe

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What every device knows -/

/-- Every cell's invariant, at the names `K`, and that every cell is at round 0. -/
def records (K : Dev nD × CI → ℕ) : sProp 𝕄 :=
  bigSep Finset.univ fun ci : Dev nD × CI => iprop(cellInv ER (Rd m) (K ci) (cell ci.1 ci.2) ∗ reached ER (cell ci.1 ci.2) 0)

instance records_persistent (K : Dev nD × CI → ℕ) : BI.Persistent (records m K) := by unfold records; infer_instance

theorem records_at (K : Dev nD × CI → ℕ) (c : Dev nD) (i : CI) :
    records m K ⊢ iprop(cellInv ER (Rd m) (K (c, i)) (cell c i) ∗ reached ER (cell c i) 0) :=
  bigSep_elim (Finset.mem_univ (c, i))

variable (K : Dev nD × CI → ℕ)

/-! ## The signals -/

def sigS (R : T) (c : Dev nD) (n : ℕ) : sProp 𝕄 :=
  iprop((∃ W, owes (c : Thread nD τ) (R + dueBar c n) W)
    ∗ bigSep (ge n) fun k => iprop(dutyTok ER (cell (peer c k) none) 0 k ∗ barPay (peer c k) k))

theorem wp_sig (R : T) (c : Dev nD) (k : Fin 15) {n : ℕ} (hk : k.val = n) {d : Dev nD} (hd : d = peer c k)
    {α : Type} {Q : α → sProp 𝕄} {cont : PUnit → Prog (TpuEff nD τ sig (Elt F) Λ₀ .tc) α} :
    iprop(records m K ∗ sigS R c n)
      ⊢ iprop((sigS R c (n + 1) -∗ wp frame (wpE (defs₀ (F := F)) 𝒱₀ (c : Thread nD τ) none) Set.univ (cont ⟨⟩) Q)
          -∗ wp frame (wpE (defs₀ (F := F)) 𝒱₀ (c : Thread nD τ) none) Set.univ (.op (.semSignal (Dev.tc d : Thread nD τ) barS (1#32 : BitVec 32).toInt) cont) Q) := by
  subst hk hd
  unfold sigS
  rw [bigSep_ge, dueBar_step, ← add_assoc]
  iintro ⟨#HR, ⟨%W, HO⟩, ⟨Ht, Hp⟩, Hrest⟩ Hk
  ihave #Hc := (records_at m K (peer c k) none) $$ HR
  icases Hc with ⟨#HI, #Hr⟩
  iapply (Rounds.wp_signal 𝒱₀ ER (Rd m) (c : Thread nD τ) none (dst := (peer c k : Thread nD τ)) (κ := K (peer c k, none))
      (d := k) (by exact (duties_bar m (peer c k)).symm ▸ Finset.mem_univ k) ((amount_bar m (peer c k) k).trans (by decide)) () (R + dueBar c (k.val + 1)) rfl)
    $$ [HO Ht Hp]
  · isplitr; · iexact HI
    isplitl [HO]; · iexact HO
    isplitl [Ht]; · iexact Ht
    isplitl [Hp]; · iapply (Entails.of_eq (show barPay (peer c k) k = (Rd (F := F) m).payload ((peer c k : Thread nD τ), .reg barS) 0 k from (payload_bar m (peer c k) k).symm)); iexact Hp
    iexact Hr
  iintro HO
  iapply Hk
  isplitl [HO]; · iexists W; iexact HO
  iexact Hrest

/-! ## The barrier wait -/

theorem wp_bar (c : Dev nD) {α : Type} {Q : α → sProp 𝕄} {cont : PUnit → Prog (TpuEff nD τ sig (Elt F) Λ₀ .tc) α} :
    iprop(records m K ∗ levAts L lv ∗ cred (tallyAt (cell c none) () 15) ∗ (∃ W, owes (c : Thread nD τ) (dueTo 3 c 0 + dueTo 1 c 0) W) ∗ atPos ER (cell c none) 0 ∅ 0)
      ⊢ iprop((((∃ W, owes (c : Thread nD τ) (dueTo 3 c 0 + dueTo 1 c 0) W) ∗ atPos ER (cell c none) 1 ∅ 0 ∗ bigSep Finset.univ fun k => barPay c k)
            -∗ wp frame (wpE (defs₀ (F := F)) 𝒱₀ (c : Thread nD τ) none) Set.univ (cont ⟨⟩) Q)
          -∗ wp frame (wpE (defs₀ (F := F)) 𝒱₀ (c : Thread nD τ) none) Set.univ (.op (.semWait barS (15#32 : BitVec 32).toInt) cont) Q) := by
  iintro ⟨#HR, #Hlev, Hc, ⟨%W, HO⟩, Hat⟩ Hk
  ihave #Hi := (records_at m K c none) $$ HR
  icases Hi with ⟨#HI, -⟩
  iapply (Rounds.wp_wait_rest_token 𝒱₀ ER (Rd m) (c : Thread nD τ) none (κ := K (c, none)) (sm := csem none)
      (wpE_semWait_eq 𝒱₀ (c : Thread nD τ) none Set.univ) (Set.mem_univ _) () (O := dueTo 3 c 0 + dueTo 1 c 0) (W := W) (R := 0) (m := 0) (T := ∅)
      (by rw [Nat.zero_add]; exact (expect_bar m c).symm)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  iapply Hk
  isplitl [HO]; · iexists _; iexact HO
  isplitl [Hat]; · iexact Hat
  iapply (Entails.of_eq (show bigSep ((Rd (F := F) m).duties (cell c none) 0 \ ∅) (fun d => (Rd m).payload (cell c none) 0 d) = _ from by
    rw [Finset.sdiff_empty, duties_bar, bigSep_congr fun k _ => payload_bar m c k]))
  iexact Hpay

/-! ## The transfers -/

/-- Before the `n`-th transfer of a phase whose sends credit family `qs` and whose landings credit family `qr`. -/
def sendS (qs qr : Fin 4) (dst : Fin 15 → Memref sig .tc .vmem S32x512 .bf16) (R : T) (c : Dev nD) (n : ℕ) : sProp 𝕄 :=
  iprop((∃ W, owes (c : Thread nD τ) (R + dueTo qr c n) W)
    ∗ (bigSep (ge n) fun k => iprop(dmaPay m c qs k ∗ (∃ f, mPts (F := F) (dst k) (peer c k) fullShare f)
        ∗ dutyTok ER (cell c (some (qs, k))) 0 0 ∗ dutyTok ER (cell (peer c k) (some (qr, k))) 0 0))
    ∗ bigSep (lt n) fun k => cred (tallyAt (cell c (some (qs, k))) () N))

theorem wp_xfer (qs qr : Fin 4) (dst : Fin 15 → Memref sig .tc .vmem S32x512 .bf16) (R : T) (c : Dev nD) (k : Fin 15) {n : ℕ} (hk : k.val = n)
    {d : Dev nD} (hd : d = peer c k) (src : Memref sig .tc .vmem S32x512 .bf16) {src' : Memref sig .tc .vmem S32x512 .bf16} (hsrc : src' = src)
    {dst' : Memref sig .tc .vmem S32x512 .bf16} (hdst : dst' = dst k) {sS sR : DmaSem sig} (hsS : sS = dnum (qs, k)) (hsR : sR = dnum (qr, k))
    (q : PosShare TreeShare) (fs : Buf (Elt F) (src.view.loc (c : Thread nD τ))) (g : Buf (Elt F) ((dst k).view.loc (peer c k : Thread nD τ)))
    (hN : (dst k).view.dmaCredit = N)
    (hpS : dmaPay m c qs k = mPts (F := F) src c q fs) (hpR : dmaPay m (peer c k) qr k = mPts (F := F) (dst k) (peer c k) fullShare g)
    (hread : src.view.read (Elt F) fs = (dst k).view.read (Elt F) g)
    {hsc : dst'.view.ref.isScScratch = false} {hse : src'.view.WordExact} {hde : dst'.view.WordExact}
    {hty : DmaTarget.Typed .vmem (.dma sR) (.remote (Dev.tc d : Thread nD τ) dst' (.dma sS) hsc)}
    {α : Type} {Q : α → sProp 𝕄} {cont : PUnit → Prog (TpuEff nD τ sig (Elt F) Λ₀ .tc) α} :
    iprop(records m K ∗ sendS m qs qr dst R c n)
      ⊢ iprop((sendS m qs qr dst R c (n + 1) -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma src' (.remote (Dev.tc d : Thread nD τ) dst' (.dma sS) hsc) (.dma sR) hse hde hty) cont) Q) := by
  subst hk hd hsrc hdst hsS hsR
  unfold sendS
  rw [bigSep_ge, bigSep_lt, dueTo_step, ← add_assoc, hpS]
  iintro ⟨#HR, ⟨%W, HO⟩, ⟨⟨Hs, ⟨%fd, Hd⟩, HtS, HtR⟩, Hrest⟩, Hdone⟩ Hk
  ihave #Hc := (records_at m K c (some (qs, k))) $$ HR
  icases Hc with ⟨#HIs, #Hrs⟩
  ihave #Hc' := (records_at m K (peer c k) (some (qr, k))) $$ HR
  icases Hc' with ⟨#HIr, #Hrr⟩
  iapply (Rounds.wp_send_pointsTo 𝒱₀ ER (Rd m) (c : Thread nD τ) none (κ₁ := K (c, some (qs, k))) (κ₂ := K (peer c k, some (qr, k)))
      (c' := (peer c k : Thread nD τ)) (q := q) (fs := fs) (r₁ := 0) (r₂ := 0) (d₁ := 0) (d₂ := 0) (fd := fd)
      (by exact (duties_dma m c (qs, k)).symm ▸ Finset.mem_singleton_self _) (by exact (duties_dma m (peer c k) (qr, k)).symm ▸ Finset.mem_singleton_self _)
      () () N (by exact hN) (amount_dma m c (qs, k) 0) (amount_dma m (peer c k) (qr, k) 0) (R + dueTo qr c (k.val + 1)) rfl (W := W)
      (Entails.of_eq (hpS.symm.trans (payload_dma m c (qs, k) 0).symm))
      (Entails.of_eq (((landed _ _ c (peer c k) fullShare fs fd g hread).trans hpR.symm).trans (payload_dma m (peer c k) (qr, k) 0).symm))) $$ [Hs Hd HO HtS HtR]
  · isplitr; · iexact HIs
    isplitr; · iexact HIr
    isplitl [Hs]; · unfold mPts; iexact Hs
    isplitl [Hd]; · unfold mPts; iexact Hd
    isplitl [HO]; · iexact HO
    isplitl [HtS]; · iexact HtS
    isplitr; · iexact Hrs
    isplitl [HtR]; · iexact HtR
    iexact Hrr
  iintro ⟨Hcr, HO⟩
  iapply Hk
  isplitl [HO]; · iexists W; iexact HO
  isplitl [Hrest]; · iexact Hrest
  isplitl [Hcr]; · iexact Hcr
  iexact Hdone

/-- The reduce-scatter's state: the block for the device `k + 1` on goes to its landing block `k`. -/
abbrev rsS (c : Dev nD) (n : ℕ) : sProp 𝕄 := sendS m 0 1 bS (dueTo 3 c 0) c n
/-- The all-gather's state: the device's own rows go to the same rows of every other device. -/
abbrev agS (c : Dev nD) (n : ℕ) : sProp 𝕄 := sendS m 2 3 (fun _ => oS c) 0 c n

theorem wp_rs (c : Dev nD) (k : Fin 15) {n : ℕ} (hk : k.val = n)
    {d : Dev nD} (hd : d = peer c k) {src' : Memref sig .tc .vmem S32x512 .bf16} (hsrc : src' = aS (peer c k))
    {dst' : Memref sig .tc .vmem S32x512 .bf16} (hdst : dst' = bS k) {sS sR : DmaSem sig} (hsS : sS = dnum (0, k)) (hsR : sR = dnum (1, k))
    {hsc : dst'.view.ref.isScScratch = false} {hse : src'.view.WordExact} {hde : dst'.view.WordExact}
    {hty : DmaTarget.Typed .vmem (.dma sR) (.remote (Dev.tc d : Thread nD τ) dst' (.dma sS) hsc)}
    {α : Type} {Q : α → sProp 𝕄} {cont : PUnit → Prog (TpuEff nD τ sig (Elt F) Λ₀ .tc) α} :
    iprop(records m K ∗ rsS m c n)
      ⊢ iprop((rsS m c (n + 1) -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma src' (.remote (Dev.tc d : Thread nD τ) dst' (.dma sS) hsc) (.dma sR) hse hde hty) cont) Q) :=
  wp_xfer m K 0 1 bS (dueTo 3 c 0) c k hk hd (aS (peer c k)) hsrc hdst hsS hsR fullShare (accF m c) (rsF m (peer c k)) rfl rfl rfl (rs_reads m c k)

theorem wp_ag (c : Dev nD) (k : Fin 15) {n : ℕ} (hk : k.val = n)
    {d : Dev nD} (hd : d = peer c k) {src' : Memref sig .tc .vmem S32x512 .bf16} (hsrc : src' = oS c)
    {dst' : Memref sig .tc .vmem S32x512 .bf16} (hdst : dst' = oS c) {sS sR : DmaSem sig} (hsS : sS = dnum (2, k)) (hsR : sR = dnum (3, k))
    {hsc : dst'.view.ref.isScScratch = false} {hse : src'.view.WordExact} {hde : dst'.view.WordExact}
    {hty : DmaTarget.Typed .vmem (.dma sR) (.remote (Dev.tc d : Thread nD τ) dst' (.dma sS) hsc)}
    {α : Type} {Q : α → sProp 𝕄} {cont : PUnit → Prog (TpuEff nD τ sig (Elt F) Λ₀ .tc) α} :
    iprop(records m K ∗ agS m c n)
      ⊢ iprop((agS m c (n + 1) -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma src' (.remote (Dev.tc d : Thread nD τ) dst' (.dma sS) hsc) (.dma sR) hse hde hty) cont) Q) :=
  wp_xfer m K 2 3 (fun _ => oS c) 0 c k hk hd (oS c) hsrc hdst hsS hsR (piece15 k) (agF m) (agF m) rfl rfl
    (by show mPts (oS (orig (peer c k) k)) (peer c k) fullShare (agF m) = _; rw [orig_peer]) rfl

/-! ## The waits on a family -/

def waitS (q : Fin 4) (O : T) (c : Dev nD) (n : ℕ) : sProp 𝕄 :=
  iprop((∃ W, owes (c : Thread nD τ) O W)
    ∗ (bigSep (ge n) fun k => iprop(cred (tallyAt (cell c (some (q, k))) () N) ∗ atPos ER (cell c (some (q, k))) 0 ∅ 0))
    ∗ bigSep (lt n) fun k => iprop(dmaPay m c q k ∗ atPos ER (cell c (some (q, k))) 1 ∅ 0))

theorem wp_dwait (q : Fin 4) (O : T) (c : Dev nD) (hmw : ∀ k, (levAts L lv : sProp 𝕄) ⊢ MayWait (c : Thread nD τ) (csem (some (q, k))) () O)
    (k : Fin 15) {n : ℕ} (hk : k.val = n) {s : DmaSem sig} (hs : s = dnum (q, k))
    {src dst : Memref sig .tc .vmem S32x512 .bf16} (hN : dst.view.dmaCredit = N) {h₁ : src.view.WordExact} {h₂ : dst.view.WordExact}
    {α : Type} {Q : α → sProp 𝕄} {cont : PUnit → Prog (TpuEff nD τ sig (Elt F) Λ₀ .tc) α} :
    iprop(records m K ∗ levAts L lv ∗ waitS m q O c n)
      ⊢ iprop((waitS m q O c (n + 1) -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 s src dst h₁ h₂) cont) Q) := by
  subst hk hs
  unfold waitS
  rw [bigSep_ge, bigSep_lt]
  iintro ⟨#HR, #Hlev, ⟨%W, HO⟩, ⟨⟨Hc, Hat⟩, Hrest⟩, Hdone⟩ Hk
  ihave #Hi := (records_at m K c (some (q, k))) $$ HR
  icases Hi with ⟨#HI, -⟩
  iapply (Rounds.wp_wait_rest_token 𝒱₀ ER (Rd m) (c : Thread nD τ) none (κ := K (c, some (q, k))) (sm := csem (some (q, k))) (k' := dst.view.dmaCredit)
      (wpE_waitDma2_eq 𝒱₀ (c : Thread nD τ) none Set.univ) (Set.mem_univ _) () (O := O) (W := W) (R := 0) (m := 0) (T := ∅)
      (by rw [Nat.zero_add, hN]; exact (expect_dma m c (q, k)).symm)) $$ [Hc HO Hat]
  · isplitr; · iexact HI
    isplitl [Hc]; · rw [hN]; iexact Hc
    isplitl [HO]; · iexact HO
    isplitr; · iapply (hmw k); iexact Hlev
    iexact Hat
  iintro ⟨HO, Hat, -, Hpay⟩
  iapply Hk
  isplitl [HO]; · iexists _; iexact HO
  isplitl [Hrest]; · iexact Hrest
  isplitr [Hdone]
  · isplitl [Hpay]
    · iapply (Entails.of_eq (show bigSep ((Rd (F := F) m).duties (cell c (some (q, k))) 0 \ ∅) (fun d => (Rd m).payload (cell c (some (q, k))) 0 d) = _ from by
        rw [Finset.sdiff_empty, duties_dma m c (q, k), bigSep_singleton, payload_dma m c (q, k)]))
      iexact Hpay
    · iexact Hat
  iexact Hdone

/-! ## The same, at the program's own spellings: the next step is the one the state names -/

/-- What every step reads and keeps. -/
def kept : sProp 𝕄 := iprop(records m K ∗ levAts L lv)

instance kept_persistent : BI.Persistent (kept m K) := by unfold kept; infer_instance

theorem dev_eq {f : Dev nD → ℕ} (c : Dev nD) {h : f c < nD} {k : Fin 15} (hf : ∀ c, f c = (peer c k).val) :
    (⟨f c, h⟩ : Dev nD) = peer c k := Fin.ext (hf c)

theorem next_sig (R : T) (c : Dev nD) {n : ℕ} (hn : n < 15) {d : Dev nD} (hd : d = peer c ⟨n, hn⟩) {s : Sem sig} (hs : s = barS)
    {α : Type} {Q : α → sProp 𝕄} {cont : PUnit → Prog (TpuEff nD τ sig (Elt F) Λ₀ .tc) α} {D : sProp 𝕄}
    (h : iprop(kept m K ∗ sigS R c (n + 1) ∗ D) ⊢ wp frame (wpE (defs₀ (F := F)) 𝒱₀ (c : Thread nD τ) none) Set.univ (cont ⟨⟩) Q) :
    iprop(kept m K ∗ sigS R c n ∗ D)
      ⊢ wp frame (wpE (defs₀ (F := F)) 𝒱₀ (c : Thread nD τ) none) Set.univ (.op (.semSignal ((d, Proc.tc) : Thread nD τ) s (1#32 : BitVec 32).toInt) cont) Q := by
  subst hs hd
  iintro ⟨#HK, HS, HD⟩
  iapply (wp_sig m K R c ⟨n, hn⟩ rfl rfl) $$ [HS]
  · isplitr
    · unfold kept; icases HK with ⟨HR, -⟩; iexact HR
    iexact HS
  iintro HS
  iapply h
  isplitr; · iexact HK
  isplitl [HS] <;> iassumption

theorem next_rs (c : Dev nD) {n : ℕ} (hn : n < 15) {d : Dev nD} (hd : d = peer c ⟨n, hn⟩)
    {w : BitVec 32} (hw : w = BitVec.ofNat 32 (1 + n)) {hb : ∀ a, k0_off1 c w a + S1x32x512.size a ≤ S16x32x512.size a}
    {j : ℕ} (hj : j = n) {hb' : ∀ a, (![j, 0, 0] : Fin 3 → Nat) a + S1x32x512.size a ≤ S15x32x512.size a}
    {sS sR : DmaSem sig} (hsS : sS = dnum (0, ⟨n, hn⟩)) (hsR : sR = dnum (1, ⟨n, hn⟩))
    {hsc : ((bM.slice (Rect.unit (s := S15x32x512) ![j, 0, 0] S1x32x512.size hb') (fun _ => rfl)).squeeze S32x512 squeezes_S1x32x512_S32x512).view.ref.isScScratch = false}
    {hse hde}
    {hty : DmaTarget.Typed .vmem (.dma sR) (.remote ((d, Proc.tc) : Thread nD τ)
      ((bM.slice (Rect.unit (s := S15x32x512) ![j, 0, 0] S1x32x512.size hb') (fun _ => rfl)).squeeze S32x512 squeezes_S1x32x512_S32x512) (.dma sS) hsc)}
    {α : Type} {Q : α → sProp 𝕄} {cont : PUnit → Prog (TpuEff nD τ sig (Elt F) Λ₀ .tc) α} {D : sProp 𝕄}
    (h : iprop(kept m K ∗ rsS m c (n + 1) ∗ D) ⊢ wp frame (wpE (defs₀ (F := F)) 𝒱₀ (c : Thread nD τ) none) Set.univ (cont ⟨⟩) Q) :
    iprop(kept m K ∗ rsS m c n ∗ D)
      ⊢ wp frame (wpE (defs₀ (F := F)) 𝒱₀ (c : Thread nD τ) none) Set.univ
              (.op (.enqueueDma ((aM.slice (Rect.unit (s := S16x32x512) (k0_off1 c w) S1x32x512.size hb) (fun _ => rfl)).squeeze S32x512 squeezes_S1x32x512_S32x512)
                (.remote ((d, Proc.tc) : Thread nD τ)
                  ((bM.slice (Rect.unit (s := S15x32x512) ![j, 0, 0] S1x32x512.size hb') (fun _ => rfl)).squeeze S32x512 squeezes_S1x32x512_S32x512) (.dma sS) hsc)
                (.dma sR) hse hde hty) cont) Q := by
  subst hw hj hd
  iintro ⟨#HK, HS, HD⟩
  iapply (wp_rs m K c ⟨j, hn⟩ rfl rfl (aS_of (offA_eq c ⟨j, hn⟩) _) rfl hsS hsR) $$ [HS]
  · isplitr
    · unfold kept; icases HK with ⟨HR, -⟩; iexact HR
    iexact HS
  iintro HS
  iapply h
  isplitr; · iexact HK
  isplitl [HS] <;> iassumption

theorem next_ag (c : Dev nD) {n : ℕ} (hn : n < 15) {d : Dev nD} (hd : d = peer c ⟨n, hn⟩)
    {hb hb' : ∀ a, k0_off4 c a + S32x512.size a ≤ S512x512.size a}
    {sS sR : DmaSem sig} (hsS : sS = dnum (2, ⟨n, hn⟩)) (hsR : sR = dnum (3, ⟨n, hn⟩))
    {hsc : (oM.slice (Rect.unit (s := S512x512) (k0_off4 c) S32x512.size hb') (fun _ => rfl)).view.ref.isScScratch = false}
    {hse hde}
    {hty : DmaTarget.Typed .vmem (.dma sR) (.remote ((d, Proc.tc) : Thread nD τ)
      (oM.slice (Rect.unit (s := S512x512) (k0_off4 c) S32x512.size hb') (fun _ => rfl)) (.dma sS) hsc)}
    {α : Type} {Q : α → sProp 𝕄} {cont : PUnit → Prog (TpuEff nD τ sig (Elt F) Λ₀ .tc) α} {D : sProp 𝕄}
    (h : iprop(kept m K ∗ agS m c (n + 1) ∗ D) ⊢ wp frame (wpE (defs₀ (F := F)) 𝒱₀ (c : Thread nD τ) none) Set.univ (cont ⟨⟩) Q) :
    iprop(kept m K ∗ agS m c n ∗ D)
      ⊢ wp frame (wpE (defs₀ (F := F)) 𝒱₀ (c : Thread nD τ) none) Set.univ
              (.op (.enqueueDma (oM.slice (Rect.unit (s := S512x512) (k0_off4 c) S32x512.size hb) (fun _ => rfl))
                (.remote ((d, Proc.tc) : Thread nD τ) (oM.slice (Rect.unit (s := S512x512) (k0_off4 c) S32x512.size hb') (fun _ => rfl)) (.dma sS) hsc)
                (.dma sR) hse hde hty) cont) Q := by
  subst hd
  iintro ⟨#HK, HS, HD⟩
  iapply (wp_ag m K c ⟨n, hn⟩ rfl rfl (oS_of (off4_eq c) _) (oS_of (off4_eq c) _) hsS hsR) $$ [HS]
  · isplitr
    · unfold kept; icases HK with ⟨HR, -⟩; iexact HR
    iexact HS
  iintro HS
  iapply h
  isplitr; · iexact HK
  isplitl [HS] <;> iassumption

theorem next_wait (q : Fin 4) (O : T) (c : Dev nD) (hmw : ∀ k, (levAts L lv : sProp 𝕄) ⊢ MayWait (c : Thread nD τ) (csem (some (q, k))) () O)
    {n : ℕ} (hn : n < 15) {s : DmaSem sig} (hs : s = dnum (q, ⟨n, hn⟩))
    {src dst : Memref sig .tc .vmem S32x512 .bf16} (hN : dst.view.dmaCredit = N) {h₁ : src.view.WordExact} {h₂ : dst.view.WordExact}
    {α : Type} {Q : α → sProp 𝕄} {cont : PUnit → Prog (TpuEff nD τ sig (Elt F) Λ₀ .tc) α} {D : sProp 𝕄}
    (h : iprop(kept m K ∗ waitS m q O c (n + 1) ∗ D) ⊢ wp frame (wpE (defs₀ (F := F)) 𝒱₀ (c : Thread nD τ) none) Set.univ (cont ⟨⟩) Q) :
    iprop(kept m K ∗ waitS m q O c n ∗ D)
      ⊢ wp frame (wpE (defs₀ (F := F)) 𝒱₀ (c : Thread nD τ) none) Set.univ (.op (.waitDma2 s src dst h₁ h₂) cont) Q := by
  iintro ⟨#HK, HS, HD⟩
  iapply (wp_dwait m K q O c hmw ⟨n, hn⟩ rfl hs hN) $$ [HS]
  · unfold kept
    icases HK with ⟨HR, HL⟩
    isplitr; · iexact HR
    isplitr; · iexact HL
    iexact HS
  iintro HS
  iapply h
  isplitr; · iexact HK
  isplitl [HS] <;> iassumption

/-! ## Closing the cells -/

theorem close_all (q : Fin 4) (c : Dev nD) :
    iprop(records m K ∗ bigSep Finset.univ fun k : Fin 15 => atPos ER (cell c (some (q, k))) 1 ∅ 0)
      ⊢ (|={Set.univ}=> bigSep Finset.univ fun k : Fin 15 => semVal (cell c (some (q, k))) 0 : sProp 𝕄) := by
  have h (k : Fin 15) : iprop(records m K ∗ atPos ER (cell c (some (q, k))) 1 ∅ 0) ⊢ (|={Set.univ}=> semVal (cell c (some (q, k))) 0 : sProp 𝕄) := by
    iintro ⟨#HR, Hat⟩
    ihave #Hi := (records_at m K c (some (q, k))) $$ HR
    icases Hi with ⟨#HI, -⟩
    iapply (Rounds.cell_close ER (Rd m) (Set.mem_univ (K (c, some (q, k)))) (fun h => h) (R := 0 + 1) (duties_later m (cell c (some (q, k)))))
    isplitr; · iexact HI
    iexact Hat
  refine BI.Entails.trans ?_ (bigSep_fupd _ _)
  refine (sep_mono_left (BI.bigSep_of_persistent (Finset.univ : Finset (Fin 15)) (records m K))).trans ?_
  rw [← bigSep_sep']
  exact bigSep_mono fun k _ => h k

end Cert.KernelIdeal.Moe

end
-- ==== Proof.KI.Splits.lean ====
/-
The buffers held whole and held block by block, and what the loads and stores of the body read and leave.
-/
module

public import proofs.«01_k».proof.Proof.KI.Steps

@[expose] public section

noncomputable section

namespace Cert.KernelIdeal.Moe

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Whole and in blocks -/

/-- The device whose rows an element of the result is among. -/
def rowDev (i : S512x512.Idx) : Dev nD := ⟨(i 0).val / 32, by have : (i 0).val < 512 := (i 0).isLt; show _ < 16; omega⟩

omit [FloatOps F] in
theorem a_blocks (c : Dev nD) (f : Buf (Elt F) ((c : Thread nD τ).loc cc0_scratch0)) :
    (((c : Thread nD τ).loc cc0_scratch0 ↦{fullShare} f) : sProp 𝕄)
      = iprop(mPts (F := F) (aS c) c fullShare f ∗ bigSep Finset.univ fun k : Fin 15 => mPts (F := F) (aS (peer c k)) c fullShare f) := by
  rw [← bigSep_devs' c fun j => mPts (F := F) (aS j) c fullShare f]
  exact Ring.pointsTo_blocks (ℓ := (c : Thread nD τ).loc cc0_scratch0) (fun j : Dev nD => (aS j).view.set)
    (fun b b' h => by rw [aS_set, aS_set]; exact rA_disj b b' h) (Finset.eq_univ_iff_forall.mpr fun i => Finset.mem_biUnion.mpr ⟨⟨((i : S16x32x512.Idx) 0).val, ((i : S16x32x512.Idx) 0).isLt⟩, Finset.mem_univ _, by rw [aS_set]; exact (mem_rA _ i).mpr rfl⟩) f
omit [FloatOps F] in
theorem b_blocks (c : Dev nD) (f : Buf (Elt F) ((c : Thread nD τ).loc cc0_scratch1)) :
    (((c : Thread nD τ).loc cc0_scratch1 ↦{fullShare} f) : sProp 𝕄) = bigSep Finset.univ fun k : Fin 15 => mPts (F := F) (bS k) c fullShare f :=
  Ring.pointsTo_blocks (ℓ := (c : Thread nD τ).loc cc0_scratch1) (fun j : Fin 15 => (bS j).view.set)
    (fun b b' h => by rw [bS_set, bS_set]; exact rB_disj b b' h) (Finset.eq_univ_iff_forall.mpr fun i => Finset.mem_biUnion.mpr ⟨⟨((i : S15x32x512.Idx) 0).val, ((i : S15x32x512.Idx) 0).isLt⟩, Finset.mem_univ _, by rw [bS_set]; exact (mem_rB _ i).mpr rfl⟩) f
omit [FloatOps F] in
theorem o_blocks (c : Dev nD) (f : Buf (Elt F) ((c : Thread nD τ).loc cc0_stg5_0)) :
    (((c : Thread nD τ).loc cc0_stg5_0 ↦{fullShare} f) : sProp 𝕄) = bigSep Finset.univ fun j : Dev nD => mPts (F := F) (oS j) c fullShare f :=
  Ring.pointsTo_blocks (ℓ := (c : Thread nD τ).loc cc0_stg5_0) (fun j : Dev nD => (oS j).view.set)
    (fun b b' h => by rw [oS_set, oS_set]; exact rO_disj b b' h) (Finset.eq_univ_iff_forall.mpr fun i => Finset.mem_biUnion.mpr ⟨rowDev i, Finset.mem_univ _, by rw [oS_set]; exact (mem_rO _ i).mpr rfl⟩) f

omit [FloatOps F] in
/-- The landing blocks and the other devices' rows, handed out with the signals. -/
theorem to_pays (c : Dev nD) (fb : Buf (Elt F) ((c : Thread nD τ).loc cc0_scratch1)) (fo : Buf (Elt F) ((c : Thread nD τ).loc cc0_stg5_0)) :
    iprop(((c : Thread nD τ).loc cc0_scratch1 ↦{fullShare} fb) ∗ ((c : Thread nD τ).loc cc0_stg5_0 ↦{fullShare} fo))
      ⊢ (iprop(mPts (F := F) (oS c) c fullShare fo ∗ bigSep Finset.univ fun k : Fin 15 => barPay (F := F) (peer c k) k) : sProp 𝕄) := by
  rw [b_blocks, o_blocks, bigSep_opp, bigSep_devs' c]
  iintro ⟨Hb, Ho, Hos⟩
  isplitl [Ho]; · iexact Ho
  have h (k : Fin 15) : iprop(mPts (F := F) (bS (opp k)) c fullShare fb ∗ mPts (F := F) (oS (peer c k)) c fullShare fo) ⊢ (barPay (F := F) (peer c k) k : sProp 𝕄) := by
    unfold barPay; rw [orig_peer]
    iintro ⟨H1, H2⟩
    isplitl [H1]; · iexists fb; iexact H1
    iexists fo; iexact H2
  iapply ((Entails.of_eq (bigSep_sep' Finset.univ (fun k : Fin 15 => mPts (F := F) (bS (opp k)) c fullShare fb) (fun k => mPts (F := F) (oS (peer c k)) c fullShare fo)).symm).trans
    (bigSep_mono fun k _ => h k))
  isplitl [Hb]; · iexact Hb
  iexact Hos

omit [FloatOps F] in
/-- What the fifteen signals brought: of every other device, the landing block for this device's transfer to it, and its rows for this
    device's sums. -/
theorem of_pays (c : Dev nD) :
    (bigSep Finset.univ fun k : Fin 15 => barPay (F := F) c k : sProp 𝕄)
      ⊢ iprop((bigSep Finset.univ fun k : Fin 15 => iprop(∃ f, mPts (F := F) (bS k) (peer c k) fullShare f))
          ∗ bigSep Finset.univ fun k : Fin 15 => iprop(∃ f, mPts (F := F) (oS c) (peer c k) fullShare f)) := by
  rw [bigSep_opp, ← bigSep_sep']
  exact Entails.of_eq (bigSep_congr fun k _ => by unfold barPay; rw [orig_opp, opp_opp])

/-! ## Pieces of the rows -/

omit [FloatOps F] in
theorem pieces (c : Dev nD) (f : Buf (Elt F) ((c : Thread nD τ).loc cc0_stg5_0)) :
    (mPts (F := F) (oS c) c fullShare f : sProp 𝕄) = bigSep Finset.univ fun k : Fin 15 => mPts (F := F) (oS c) c (piece15 k) f :=
  pointsTo_piecesOf (ℓ := (c : Thread nD τ).loc cc0_stg5_0) (oS c).view.set f (by decide) fullShare

/-! ## Reads and writes -/

theorem hz2 : (![0, 0] : Fin 2 → Nat) = fun _ => 0 := funext fun a => by fin_cases a <;> rfl
theorem hz3 : (![0, 0, 0] : Fin 3 → Nat) = fun _ => 0 := funext fun a => by fin_cases a <;> rfl

theorem read_own (c : Dev nD) {o : Fin 3 → Nat} (h : o = ![c.val, 0, 0]) (hb : ∀ a, o a + S1x32x512.size a ≤ S16x32x512.size a) :
    aM.view.readAt (Elt F) (Rect.unit (s := S16x32x512) o S1x32x512.size hb).toLoadRect (accF m c) = ownF m c := by
  subst h
  funext i
  show accF m c ((rA c).emb i) = accF m c _
  congr 1
  funext a; apply Fin.ext; rw [ValueKit.rect_emb_unit_val]
  match a with
  | 0 => have : (i 0).val < 1 := (i 0).isLt
         show c.val + (i 0).val = c.val; omega
  | 1 => show 0 + (i 1).val = (i 1).val; omega
  | 2 => show 0 + (i 2).val = (i 2).val; omega

omit [FloatOps F] in
theorem row_access (c : Dev nD) {o : Fin 2 → Nat} (h : o = ![32 * c.val, 0]) (hb : ∀ a, o a + S32x512.size a ≤ S512x512.size a) :
    (oM.access (Rect.unit (s := S512x512) o S32x512.size hb) : View sig .tc _ _ _) = (oS c).view := by subst h; rfl

omit [FloatOps F] in
theorem row_setOn (c : Dev nD) {o : Fin 2 → Nat} (h : o = ![32 * c.val, 0]) (hb : ∀ a, o a + S32x512.size a ≤ S512x512.size a) :
    (oM.access (Rect.unit (s := S512x512) o S32x512.size hb) : View sig .tc _ _ _).setOn Finset.univ ⊆ (oS c).view.set := by
  subst h; exact subset_rfl
omit [FloatOps F] in
theorem row_loadOn (c : Dev nD) {o : Fin 2 → Nat} (h : o = ![32 * c.val, 0]) (hb : ∀ a, o a + S32x512.size a ≤ S512x512.size a) :
    oM.view.setOn (Rect.unit (s := S512x512) o S32x512.size hb).toLoadRect.set ⊆ (oS c).view.set := by
  subst h
  intro i hi
  rw [oS_set]
  obtain ⟨j, hj, rfl⟩ := Finset.mem_map.mp hi
  exact hj

/-- The sums stored into the device's own rows are the gathered result's. -/
theorem row_stored (c : Dev nD) {o : Fin 2 → Nat} (h : o = ![32 * c.val, 0]) (hb : ∀ a, o a + S32x512.size a ≤ S512x512.size a)
    (f : Buf (Elt F) ((c : Thread nD τ).loc cc0_stg5_0)) :
    ((c : Thread nD τ).loc cc0_stg5_0 ↦[(oS c).view.set]{fullShare}
        (oM.access (Rect.unit (s := S512x512) o S32x512.size hb) : View sig .tc _ _ _).write (Elt F) f (redF m c) Finset.univ : sProp 𝕄)
      = mPts (F := F) (oS c) c fullShare (agF m) := by
  subst h
  unfold mPts
  refine pointsTo_congr fun i hi => ?_
  obtain ⟨j, -, rfl⟩ := Finset.mem_map.mp hi
  refine ((oS c).view.write_emb_of_mem f (redF m c) (Finset.mem_univ j)).trans ?_
  show redF m c j = agF m ((oS c).view.emb j)
  rw [oS_emb]
  exact (congrArg _ (eq_ix2 j)).trans (agF_row m c (j 0) (j 1)).symm

end Cert.KernelIdeal.Moe

end
-- ==== Proof.KI.Body.lean ====
/-
What a device holds between the phases of the body, and how one phase's holdings become the next one's.
-/
module

public import proofs.«01_k».proof.Proof.KI.Splits

@[expose] public section

noncomputable section

namespace Cert.KernelIdeal.Moe

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds besides the records -/

def pos (q : Fin 4) (c : Dev nD) (r : ℕ) : sProp 𝕄 := bigSep Finset.univ fun k : Fin 15 => atPos ER (cell c (some (q, k))) r ∅ 0
def sendToks (q : Fin 4) (c : Dev nD) : sProp 𝕄 := bigSep Finset.univ fun k : Fin 15 => dutyTok ER (cell c (some (q, k))) 0 0
def recvToks (q : Fin 4) (c : Dev nD) : sProp 𝕄 := bigSep Finset.univ fun k : Fin 15 => dutyTok ER (cell (peer c k) (some (q, k))) 0 0
def barToks (c : Dev nD) : sProp 𝕄 := bigSep Finset.univ fun k : Fin 15 => dutyTok ER (cell (peer c k) none) 0 k
def crs (q : Fin 4) (c : Dev nD) : sProp 𝕄 := bigSep Finset.univ fun k : Fin 15 => cred (tallyAt (cell c (some (q, k))) () N)
def pays (q : Fin 4) (c : Dev nD) : sProp 𝕄 := bigSep Finset.univ fun k : Fin 15 => dmaPay m c q k
def zeros (q : Fin 4) (c : Dev nD) : sProp 𝕄 := bigSep Finset.univ fun k : Fin 15 => semVal (cell c (some (q, k))) 0

def linear (c : Dev nD) : sProp 𝕄 :=
  iprop(atPos ER (cell c none) 0 ∅ 0 ∗ pos 0 c 0 ∗ pos 1 c 0 ∗ pos 2 c 0 ∗ pos 3 c 0
    ∗ barToks c ∗ sendToks 0 c ∗ recvToks 1 c ∗ sendToks 2 c ∗ recvToks 3 c)
def creds (c : Dev nD) : sProp 𝕄 := iprop(cred (tallyAt (cell c none) () 15) ∗ crs 1 c ∗ crs 3 c)
def ghost (K : Dev nD × CI → ℕ) (c : Dev nD) : sProp 𝕄 := iprop(records m K ∗ linear c)
def start (c : Dev nD) : sProp 𝕄 := iprop((∃ K, ghost m K c) ∗ creds c ∗ levAts L lv)

abbrev someA (c : Dev nD) : sProp 𝕄 := iprop(∃ f : Buf (Elt F) ((c : Thread nD τ).loc cc0_scratch0), ((c : Thread nD τ).loc cc0_scratch0) ↦{fullShare} f)
abbrev someB (c : Dev nD) : sProp 𝕄 := iprop(∃ f : Buf (Elt F) ((c : Thread nD τ).loc cc0_scratch1), ((c : Thread nD τ).loc cc0_scratch1) ↦{fullShare} f)

def Φ₀ (c : Dev nD) : sProp 𝕄 := iprop(start m c ∗ someA c ∗ someB c)
/-- After the body: the two scratch buffers, and every cell closed at zero. -/
def Φ₁ (c : Dev nD) : sProp 𝕄 := iprop(someA c ∗ someB c ∗ semVal (cell c none) 0 ∗ zeros 0 c ∗ zeros 1 c ∗ zeros 2 c ∗ zeros 3 c)

def dats (_ : Fin 1) (c : Dev nD) : Dat τ (Elt F) Unit ℕ UU ℕ cfg0 c where
  A w := V m c (Pipeline.arrRef spec0 w)
  after w _ := match w with
    | ⟨0, _⟩ => inX m c
    | ⟨1, _⟩ => inR m c
    | ⟨2, _⟩ => inI m c
    | ⟨3, _⟩ => inE m c
    | ⟨4, _⟩ => inS m c
    | ⟨5, _⟩ => outF m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## Into and out of the phases -/

omit [FloatOps F] in
theorem owes_eq {O O' : T} (h : O = O') (c : Dev nD) :
    (iprop(∃ W, owes (c : Thread nD τ) O W) : sProp 𝕄) ⊢ iprop(∃ W, owes (c : Thread nD τ) O' W) := by subst h; exact Entails.refl _

omit [FloatOps F] in
theorem sig_intro (R : T) (c : Dev nD) :
    (iprop((∃ W, owes (c : Thread nD τ) (R + dueBar c 0) W) ∗ barToks c ∗ bigSep Finset.univ fun k : Fin 15 => barPay (F := F) (peer c k) k) : sProp 𝕄) ⊢ sigS R c 0 := by
  unfold sigS barToks; rw [ge_zero, ← bigSep_sep']
omit [FloatOps F] in
theorem sig_exit (R : T) (c : Dev nD) : (sigS (F := F) R c 15 : sProp 𝕄) ⊢ iprop(∃ W, owes (c : Thread nD τ) R W) := by
  unfold sigS; rw [dueBar_end, add_zero]
  iintro ⟨H, -⟩; iexact H

theorem send_intro (qs qr : Fin 4) (dst : Fin 15 → Memref sig .tc .vmem S32x512 .bf16) (R : T) (c : Dev nD) :
    iprop((∃ W, owes (c : Thread nD τ) (R + dueTo qr c 0) W) ∗ pays m qs c
        ∗ (bigSep Finset.univ fun k : Fin 15 => iprop(∃ f, mPts (F := F) (dst k) (peer c k) fullShare f)) ∗ sendToks qs c ∗ recvToks qr c)
      ⊢ sendS m qs qr dst R c 0 := by
  unfold sendS pays sendToks recvToks
  rw [ge_zero, lt_zero, bigSep_empty, bigSep_sep', bigSep_sep', bigSep_sep']
  iintro ⟨HO, H⟩
  isplitl [HO]; · iexact HO
  isplitl [H]; · iexact H
  iempintro
theorem send_exit (qs qr : Fin 4) (dst : Fin 15 → Memref sig .tc .vmem S32x512 .bf16) (R : T) (c : Dev nD) :
    sendS m qs qr dst R c 15 ⊢ iprop((∃ W, owes (c : Thread nD τ) R W) ∗ crs qs c) := by
  unfold sendS crs
  rw [lt_end, dueTo_end, add_zero]
  iintro ⟨HO, -, H⟩
  isplitl [HO] <;> iassumption

theorem wait_intro (q : Fin 4) (O : T) (c : Dev nD) :
    iprop((∃ W, owes (c : Thread nD τ) O W) ∗ crs q c ∗ pos q c 0) ⊢ waitS m q O c 0 := by
  unfold waitS crs pos
  rw [ge_zero, lt_zero, bigSep_empty, bigSep_sep']
  iintro ⟨HO, H⟩
  isplitl [HO]; · iexact HO
  isplitl [H]; · iexact H
  iempintro
theorem wait_exit (q : Fin 4) (O : T) (c : Dev nD) :
    waitS m q O c 15 ⊢ iprop((∃ W, owes (c : Thread nD τ) O W) ∗ pays m q c ∗ pos q c 1) := by
  unfold waitS pays pos
  rw [ge_end, bigSep_empty, lt_end, bigSep_sep']
  iintro ⟨HO, -, H⟩
  isplitl [HO] <;> iassumption

/-! ## Loads and stores at the head of a program -/

theorem next_load (c : Dev nD) {α : Type} {Q : α → sProp 𝕄} {cs : CoreSpace} {s : Shape} {e : EltTy} {mm : Memref sig .tc cs s e} {r : LoadRect s}
    {hl : mm.view.LoadsAt r} {cont : (r.shape.Idx → Elt F e) → Prog (TpuEff nD τ sig (Elt F) Λ₀ .tc) α}
    {S : Finset (Idx (mm.view.loc (c : Thread nD τ)))} {f : Buf (Elt F) (mm.view.loc (c : Thread nD τ))} {v : r.shape.Idx → Elt F e} {P : sProp 𝕄}
    (hS : mm.view.setOn r.set ⊆ S) (hv : mm.view.readAt (Elt F) r f = v)
    (hP : P ⊢ iprop((mm.view.loc (c : Thread nD τ) ↦[S]{fullShare} f) ∗ ((mm.view.loc (c : Thread nD τ) ↦[S]{fullShare} f) -∗ P)))
    (h : P ⊢ wp frame (wpE (defs₀ (F := F)) 𝒱₀ (c : Thread nD τ) none) Set.univ (cont v) Q) :
    P ⊢ wp frame (wpE (defs₀ (F := F)) 𝒱₀ (c : Thread nD τ) none) Set.univ (.op (.load mm r hl) cont) Q := by
  subst hv
  refine hP.trans ?_
  iintro ⟨Hp, Hw⟩
  iapply (wp_load 𝒱₀ (c : Thread nD τ) none Set.univ (m := mm) hS) $$ Hp
  iintro Hp
  iapply h
  iapply Hw
  iexact Hp

theorem next_store (c : Dev nD) {α : Type} {Q : α → sProp 𝕄} {cs : CoreSpace} {s : Shape} {e : EltTy} {mm : Memref sig .tc cs s e} {r : Rect s}
    {w : r.shape.Idx → Elt F e} {Mk : Finset r.shape.Idx} {hx : (mm.access r).Stores Mk} {hm : Mk = Finset.univ ∨ ∀ a, r.stride a = 1}
    {cont : PUnit → Prog (TpuEff nD τ sig (Elt F) Λ₀ .tc) α}
    {S : Finset (Idx ((mm.access r).loc (c : Thread nD τ)))} {f : Buf (Elt F) ((mm.access r).loc (c : Thread nD τ))} {P P' : sProp 𝕄}
    (hS : (mm.access r).setOn Mk ⊆ S)
    (hP : P ⊢ iprop(((mm.access r).loc (c : Thread nD τ) ↦[S]{fullShare} f)
      ∗ (((mm.access r).loc (c : Thread nD τ) ↦[S]{fullShare} (mm.access r).write (Elt F) f w Mk) -∗ P')))
    (h : P' ⊢ wp frame (wpE (defs₀ (F := F)) 𝒱₀ (c : Thread nD τ) none) Set.univ (cont ⟨⟩) Q) :
    P ⊢ wp frame (wpE (defs₀ (F := F)) 𝒱₀ (c : Thread nD τ) none) Set.univ (.op (.store mm r w Mk hx hm) cont) Q := by
  refine hP.trans ?_
  iintro ⟨Hp, Hw⟩
  iapply (wp_store 𝒱₀ (c : Thread nD τ) none Set.univ (m := mm) (r := r) (Mk := Mk) hS) $$ Hp
  iintro Hp
  iapply h
  iapply Hw
  iexact Hp

omit [FloatOps F] in
/-- The head of a conjunction, taken out and put back. -/
theorem head (A D : sProp 𝕄) : iprop(A ∗ D) ⊢ iprop(A ∗ (A -∗ (A ∗ D))) := by
  iintro ⟨HA, HD⟩
  isplitl [HA]; · iexact HA
  iintro HA
  isplitl [HA] <;> iassumption
omit [FloatOps F] in
/-- The head of a conjunction, taken out and replaced. -/
theorem head' (A B C D : sProp 𝕄) (h : B ⊢ C) : iprop(A ∗ D) ⊢ iprop(A ∗ (B -∗ (C ∗ D))) := by
  iintro ⟨HA, HD⟩
  isplitl [HA]; · iexact HA
  iintro HB
  isplitl [HB]
  · iapply h; iexact HB
  · iexact HD
omit [FloatOps F] in
theorem inner {A B D : sProp 𝕄} (h : B ⊢ iprop(A ∗ (A -∗ B))) : iprop(B ∗ D) ⊢ iprop(A ∗ (A -∗ (B ∗ D))) := by
  iintro ⟨HB, HD⟩
  ihave H := h $$ HB
  icases H with ⟨HA, Hw⟩
  isplitl [HA]; · iexact HA
  iintro HA
  isplitl [HA Hw]
  · iapply Hw; iexact HA
  · iexact HD

/-! ## What is held between the phases -/

section Body

variable (K : Dev nD × CI → ℕ)

def pt (c : Dev nD) (b : Ref sig .tc) (f : Buf (Elt F) ((c : Thread nD τ).loc b)) : sProp 𝕄 := ((c : Thread nD τ).loc b) ↦{fullShare} f

def ins (c : Dev nD) : sProp 𝕄 :=
  iprop(pt c cc0_stg0_0 (inX m c) ∗ pt c cc0_stg1_0 (inR m c) ∗ pt c cc0_stg2_0 (inI m c) ∗ pt c cc0_stg3_0 (inE m c) ∗ pt c cc0_stg4_0 (inS m c))

theorem ins_x (c : Dev nD) : ins m c ⊢ iprop(pt c cc0_stg0_0 (inX m c) ∗ (pt c cc0_stg0_0 (inX m c) -∗ ins m c)) := head _ _
theorem ins_r (c : Dev nD) : ins m c ⊢ iprop(pt c cc0_stg1_0 (inR m c) ∗ (pt c cc0_stg1_0 (inR m c) -∗ ins m c)) := by
  unfold ins; iintro ⟨H0, H1, H2⟩
  isplitl [H1]; · iexact H1
  iintro H1
  isplitl [H0]; · iexact H0
  isplitl [H1] <;> iassumption
theorem ins_i (c : Dev nD) : ins m c ⊢ iprop(pt c cc0_stg2_0 (inI m c) ∗ (pt c cc0_stg2_0 (inI m c) -∗ ins m c)) := by
  unfold ins; iintro ⟨H0, H1, H2, H3⟩
  isplitl [H2]; · iexact H2
  iintro H2
  isplitl [H0]; · iexact H0
  isplitl [H1]; · iexact H1
  isplitl [H2] <;> iassumption
theorem ins_e (c : Dev nD) : ins m c ⊢ iprop(pt c cc0_stg3_0 (inE m c) ∗ (pt c cc0_stg3_0 (inE m c) -∗ ins m c)) := by
  unfold ins; iintro ⟨H0, H1, H2, H3, H4⟩
  isplitl [H3]; · iexact H3
  iintro H3
  isplitl [H0]; · iexact H0
  isplitl [H1]; · iexact H1
  isplitl [H2]; · iexact H2
  isplitl [H3] <;> iassumption
theorem ins_s (c : Dev nD) : ins m c ⊢ iprop(pt c cc0_stg4_0 (inS m c) ∗ (pt c cc0_stg4_0 (inS m c) -∗ ins m c)) := by
  unfold ins; iintro ⟨H0, H1, H2, H3, H4⟩
  isplitl [H4]; · iexact H4
  iintro H4
  isplitl [H0]; · iexact H0
  isplitl [H1]; · iexact H1
  isplitl [H2]; · iexact H2
  isplitl [H3] <;> iassumption

def dbt (c : Dev nD) (O : T) : sProp 𝕄 := iprop(∃ W, owes (c : Thread nD τ) O W)
def barR (c : Dev nD) : sProp 𝕄 := iprop(atPos ER (cell c none) 0 ∅ 0 ∗ cred (tallyAt (cell c none) () 15))
def rsR (c : Dev nD) : sProp 𝕄 := iprop(pos 0 c 0 ∗ pos 1 c 0 ∗ sendToks 0 c ∗ recvToks 1 c ∗ crs 1 c)
def agR (c : Dev nD) : sProp 𝕄 := iprop(pos 2 c 0 ∗ pos 3 c 0 ∗ sendToks 2 c ∗ recvToks 3 c ∗ crs 3 c)
def rsRest (c : Dev nD) : sProp 𝕄 := iprop(pos 0 c 0 ∗ pos 1 c 0 ∗ crs 1 c)
def agRest (c : Dev nD) : sProp 𝕄 := iprop(pos 2 c 0 ∗ pos 3 c 0 ∗ crs 3 c)
def agDst (c : Dev nD) : sProp 𝕄 := bigSep Finset.univ fun k : Fin 15 => iprop(∃ f, mPts (F := F) (oS c) (peer c k) fullShare f)
def rowP (c : Dev nD) (f : Buf (Elt F) ((c : Thread nD τ).loc cc0_stg5_0)) : sProp 𝕄 := mPts (F := F) (oS c) c fullShare f
def own (c : Dev nD) : sProp 𝕄 := mPts (F := F) (aS c) c fullShare (accF m c)
def shut (c : Dev nD) : sProp 𝕄 := atPos ER (cell c none) 1 ∅ 0

/-- What the launch deals the body. -/
def pre (c : Dev nD) (fa : Buf (Elt F) ((c : Thread nD τ).loc cc0_scratch0)) (fb : Buf (Elt F) ((c : Thread nD τ).loc cc0_scratch1)) (fo : Buf (Elt F) ((c : Thread nD τ).loc cc0_stg5_0)) : sProp 𝕄 :=
  iprop(ghost m K c ∗ creds c ∗ levAts L lv ∗ pt c cc0_scratch0 fa ∗ pt c cc0_scratch1 fb ∗ dbt c (O₀ c) ∗ ins m c ∗ pt c cc0_stg5_0 fo)
def post (c : Dev nD) : sProp 𝕄 := iprop(Φ₁ c ∗ dbt c 0 ∗ ins m c ∗ pt c cc0_stg5_0 (outF m c))

def D₀ (E : sProp 𝕄) (c : Dev nD) (fa : Buf (Elt F) ((c : Thread nD τ).loc cc0_scratch0)) (fo : Buf (Elt F) ((c : Thread nD τ).loc cc0_stg5_0)) : sProp 𝕄 := iprop(barR c ∗ ins m c ∗ pt c cc0_scratch0 fa ∗ rsR c ∗ agR c ∗ rowP c fo ∗ E)
def P₁ (E : sProp 𝕄) (c : Dev nD) (fo : Buf (Elt F) ((c : Thread nD τ).loc cc0_stg5_0)) : sProp 𝕄 := iprop(kept m K ∗ dbt c (dueTo 3 c 0 + dueTo 1 c 0) ∗ barR c ∗ rsR c ∗ agR c ∗ rowP c fo ∗ E)
def D₂ (E : sProp 𝕄) (c : Dev nD) (fo : Buf (Elt F) ((c : Thread nD τ).loc cc0_stg5_0)) : sProp 𝕄 := iprop(ins m c ∗ own m c ∗ shut c ∗ rsRest c ∗ agR c ∗ agDst c ∗ rowP c fo ∗ E)
def P₃ (E : sProp 𝕄) (c : Dev nD) (fo : Buf (Elt F) ((c : Thread nD τ).loc cc0_stg5_0)) : sProp 𝕄 := iprop(kept m K ∗ dbt c (dueTo 3 c 0) ∗ crs 0 c ∗ own m c ∗ shut c ∗ rsRest c ∗ agR c ∗ agDst c ∗ rowP c fo ∗ E)
def D₃ (E : sProp 𝕄) (c : Dev nD) (fo : Buf (Elt F) ((c : Thread nD τ).loc cc0_stg5_0)) : sProp 𝕄 := iprop(ins m c ∗ own m c ∗ shut c ∗ pos 1 c 0 ∗ crs 1 c ∗ agR c ∗ agDst c ∗ rowP c fo ∗ E)
def D₄ (E : sProp 𝕄) (c : Dev nD) (fo : Buf (Elt F) ((c : Thread nD τ).loc cc0_stg5_0)) : sProp 𝕄 := iprop(ins m c ∗ own m c ∗ shut c ∗ pays m 0 c ∗ pos 0 c 1 ∗ agR c ∗ agDst c ∗ rowP c fo ∗ E)
def P₅ (E : sProp 𝕄) (c : Dev nD) : sProp 𝕄 := iprop(kept m K ∗ ins m c ∗ dbt c (dueTo 3 c 0) ∗ pos 0 c 1 ∗ pos 1 c 1 ∗ shut c ∗ agR c ∗ agDst c ∗ E)
def D₆ (E : sProp 𝕄) (c : Dev nD) : sProp 𝕄 :=
  iprop(ins m c ∗ pt c cc0_scratch0 (accF m c) ∗ pt c cc0_scratch1 (rsF m c) ∗ pos 0 c 1 ∗ pos 1 c 1 ∗ shut c ∗ agRest c ∗ E)
def D₇ (E : sProp 𝕄) (c : Dev nD) : sProp 𝕄 :=
  iprop(ins m c ∗ pt c cc0_scratch0 (accF m c) ∗ pt c cc0_scratch1 (rsF m c) ∗ pos 0 c 1 ∗ pos 1 c 1 ∗ shut c ∗ pos 3 c 0 ∗ crs 3 c ∗ E)
def D₈ (E : sProp 𝕄) (c : Dev nD) : sProp 𝕄 :=
  iprop(ins m c ∗ pt c cc0_scratch0 (accF m c) ∗ pt c cc0_scratch1 (rsF m c) ∗ pos 0 c 1 ∗ pos 1 c 1 ∗ shut c ∗ pos 2 c 1 ∗ pays m 2 c ∗ E)
def P₉ (E : sProp 𝕄) (c : Dev nD) : sProp 𝕄 :=
  iprop(kept m K ∗ dbt c 0 ∗ ins m c ∗ pt c cc0_scratch0 (accF m c) ∗ pt c cc0_scratch1 (rsF m c)
    ∗ pos 0 c 1 ∗ pos 1 c 1 ∗ pos 2 c 1 ∗ pos 3 c 1 ∗ shut c ∗ E)

/-! ## From one phase to the next -/

theorem into_sig (E : sProp 𝕄) (c : Dev nD) (fa : Buf (Elt F) ((c : Thread nD τ).loc cc0_scratch0)) (fb : Buf (Elt F) ((c : Thread nD τ).loc cc0_scratch1)) (fo : Buf (Elt F) ((c : Thread nD τ).loc cc0_stg5_0)) : iprop(pre m K c fa fb fo ∗ E) ⊢ iprop(kept m K ∗ sigS (dueTo 3 c 0 + dueTo 1 c 0) c 0 ∗ D₀ m E c fa fo) := by
  unfold pre ghost linear creds D₀ barR rsR agR dbt pt rowP kept
  iintro ⟨⟨⟨#HR, HatB, Hat0, Hat1, Hat2, Hat3, HtB, Ht0, Ht1, Ht2, Ht3⟩, ⟨HcB, Hc1, Hc3⟩, #Hlev, Ha, Hb, HO, Hin, Ho⟩, HE⟩
  ihave Hp := (to_pays c fb fo) $$ [Hb Ho]
  · isplitl [Hb] <;> iassumption
  icases Hp with ⟨Ho, Hp⟩
  isplitr
  · isplitr <;> iassumption
  isplitl [HO HtB Hp]
  · iapply (sig_intro (dueTo 3 c 0 + dueTo 1 c 0) c)
    isplitl [HO]; · iexact HO
    isplitl [HtB] <;> iassumption
  isplitl [HatB HcB]
  · isplitl [HatB] <;> iassumption
  isplitl [Hin]; · iexact Hin
  isplitl [Ha]; · iexact Ha
  isplitl [Hat0 Hat1 Ht0 Ht1 Hc1]
  · isplitl [Hat0]; · iexact Hat0
    isplitl [Hat1]; · iexact Hat1
    isplitl [Ht0]; · iexact Ht0
    isplitl [Ht1] <;> iassumption
  isplitl [Hat2 Hat3 Ht2 Ht3 Hc3]
  · isplitl [Hat2]; · iexact Hat2
    isplitl [Hat3]; · iexact Hat3
    isplitl [Ht2]; · iexact Ht2
    isplitl [Ht3] <;> iassumption
  isplitl [Ho] <;> iassumption

theorem out_sig (E : sProp 𝕄) (c : Dev nD) (fa : Buf (Elt F) ((c : Thread nD τ).loc cc0_scratch0)) (fo : Buf (Elt F) ((c : Thread nD τ).loc cc0_stg5_0)) :
    iprop(kept m K ∗ sigS (dueTo 3 c 0 + dueTo 1 c 0) c 15 ∗ D₀ m E c fa fo) ⊢ iprop(ins m c ∗ pt c cc0_scratch0 fa ∗ P₁ m K E c fo) := by
  unfold D₀ P₁
  iintro ⟨#HK, HS, Hbar, Hin, Ha, Hrs, Hag, Hrow, HE⟩
  ihave HO := (sig_exit (dueTo 3 c 0 + dueTo 1 c 0) c) $$ HS
  isplitl [Hin]; · iexact Hin
  isplitl [Ha]; · iexact Ha
  isplitr; · iexact HK
  isplitl [HO]; · unfold dbt; iexact HO
  isplitl [Hbar]; · iexact Hbar
  isplitl [Hrs]; · iexact Hrs
  isplitl [Hag]; · iexact Hag
  isplitl [Hrow] <;> iassumption

theorem next_bar (E : sProp 𝕄) (c : Dev nD) (fo : Buf (Elt F) ((c : Thread nD τ).loc cc0_stg5_0)) {s : Sem sig} (hs : s = barS) {α : Type} {Q : α → sProp 𝕄} {cont : PUnit → Prog (TpuEff nD τ sig (Elt F) Λ₀ .tc) α}
    (h : iprop(kept m K ∗ rsS m c 0 ∗ D₂ m E c fo) ⊢ wp frame (wpE (defs₀ (F := F)) 𝒱₀ (c : Thread nD τ) none) Set.univ (cont ⟨⟩) Q) :
    iprop(pt c cc0_scratch0 (accF m c) ∗ ins m c ∗ P₁ m K E c fo)
      ⊢ wp frame (wpE (defs₀ (F := F)) 𝒱₀ (c : Thread nD τ) none) Set.univ (.op (.semWait s (15#32 : BitVec 32).toInt) cont) Q := by
  subst hs
  unfold P₁ barR rsR
  iintro ⟨Ha, Hin, #HK, HO, ⟨HatB, HcB⟩, ⟨Hat0, Hat1, Ht0, Ht1, Hc1⟩, Hag, Hrow, HE⟩
  iapply (wp_bar m K c) $$ [HcB HO HatB]
  · unfold kept dbt
    icases HK with ⟨HR, HL⟩
    isplitr; · iexact HR
    isplitr; · iexact HL
    isplitl [HcB]; · iexact HcB
    isplitl [HO] <;> iassumption
  iintro ⟨HO, HatB, Hpay⟩
  ihave Hp := (of_pays c) $$ Hpay
  icases Hp with ⟨Hb, Ho⟩
  iapply h
  isplitr; · iexact HK
  unfold pt
  ihave Ha := (Entails.of_eq (a_blocks c (accF m c))) $$ Ha
  icases Ha with ⟨Hown, Ha⟩
  isplitl [HO Ha Hb Ht0 Ht1]
  · unfold rsS
    iapply (send_intro m 0 1 bS (dueTo 3 c 0) c)
    isplitl [HO]; · iexact HO
    isplitl [Ha]; · unfold pays dmaPay; iexact Ha
    isplitl [Hb]; · iexact Hb
    isplitl [Ht0] <;> iassumption
  unfold D₂ own shut rsRest agDst
  isplitl [Hin]; · iexact Hin
  isplitl [Hown]; · iexact Hown
  isplitl [HatB]; · iexact HatB
  isplitl [Hat0 Hat1 Hc1]
  · isplitl [Hat0]; · iexact Hat0
    isplitl [Hat1] <;> iassumption
  isplitl [Hag]; · iexact Hag
  isplitl [Ho]; · iexact Ho
  isplitl [Hrow] <;> iassumption

theorem out_rs (E : sProp 𝕄) (c : Dev nD) (fo : Buf (Elt F) ((c : Thread nD τ).loc cc0_stg5_0)) : iprop(kept m K ∗ rsS m c 15 ∗ D₂ m E c fo) ⊢ iprop(ins m c ∗ P₃ m K E c fo) := by
  unfold D₂ P₃ rsS
  iintro ⟨#HK, HS, Hin, H⟩
  ihave HS := (send_exit m 0 1 bS (dueTo 3 c 0) c) $$ HS
  icases HS with ⟨HO, Hc⟩
  isplitl [Hin]; · iexact Hin
  isplitr; · iexact HK
  isplitl [HO]; · unfold dbt; iexact HO
  isplitl [Hc] <;> iassumption

theorem into_wait0 (E : sProp 𝕄) (c : Dev nD) (fo : Buf (Elt F) ((c : Thread nD τ).loc cc0_stg5_0)) : iprop(ins m c ∗ P₃ m K E c fo) ⊢ iprop(kept m K ∗ waitS m 0 (dueTo 3 c 0) c 0 ∗ D₃ m E c fo) := by
  unfold P₃ D₃ rsRest dbt
  iintro ⟨Hin, #HK, HO, Hc0, Hown, Hsh, ⟨Hat0, Hat1, Hc1⟩, H⟩
  isplitr; · iexact HK
  isplitl [HO Hc0 Hat0]
  · iapply (wait_intro m 0 (dueTo 3 c 0) c)
    isplitl [HO]; · iexact HO
    isplitl [Hc0] <;> iassumption
  isplitl [Hin]; · iexact Hin
  isplitl [Hown]; · iexact Hown
  isplitl [Hsh]; · iexact Hsh
  isplitl [Hat1]; · iexact Hat1
  isplitl [Hc1] <;> iassumption

theorem into_wait1 (E : sProp 𝕄) (c : Dev nD) (fo : Buf (Elt F) ((c : Thread nD τ).loc cc0_stg5_0)) :
    iprop(kept m K ∗ waitS m 0 (dueTo 3 c 0) c 15 ∗ D₃ m E c fo) ⊢ iprop(kept m K ∗ waitS m 1 (dueTo 3 c 0) c 0 ∗ D₄ m E c fo) := by
  unfold D₃ D₄
  iintro ⟨#HK, HS, Hin, Hown, Hsh, Hat1, Hc1, H⟩
  ihave HS := (wait_exit m 0 (dueTo 3 c 0) c) $$ HS
  icases HS with ⟨HO, Hp, Hat0⟩
  isplitr; · iexact HK
  isplitl [HO Hc1 Hat1]
  · iapply (wait_intro m 1 (dueTo 3 c 0) c)
    isplitl [HO]; · iexact HO
    isplitl [Hc1] <;> iassumption
  isplitl [Hin]; · iexact Hin
  isplitl [Hown]; · iexact Hown
  isplitl [Hsh]; · iexact Hsh
  isplitl [Hp]; · iexact Hp
  isplitl [Hat0] <;> iassumption

theorem out_wait1 (E : sProp 𝕄) (c : Dev nD) (fo : Buf (Elt F) ((c : Thread nD τ).loc cc0_stg5_0)) :
    iprop(kept m K ∗ waitS m 1 (dueTo 3 c 0) c 15 ∗ D₄ m E c fo)
      ⊢ iprop(pt c cc0_scratch0 (accF m c) ∗ pt c cc0_scratch1 (rsF m c) ∗ rowP c fo ∗ P₅ m K E c) := by
  unfold D₄ P₅ own pt
  rw [a_blocks, b_blocks]
  iintro ⟨#HK, HS, Hin, Hown, Hsh, Hp, Hat0, Hag, Hdst, Hrow, HE⟩
  ihave HS := (wait_exit m 1 (dueTo 3 c 0) c) $$ HS
  icases HS with ⟨HO, Hq, Hat1⟩
  isplitl [Hown Hp]
  · isplitl [Hown]; · iexact Hown
    unfold pays dmaPay; iexact Hp
  isplitl [Hq]
  · unfold pays dmaPay; iexact Hq
  isplitl [Hrow]; · iexact Hrow
  isplitr; · iexact HK
  isplitl [Hin]; · iexact Hin
  isplitl [HO]; · unfold dbt; iexact HO
  isplitl [Hat0]; · iexact Hat0
  isplitl [Hat1]; · iexact Hat1
  isplitl [Hsh]; · iexact Hsh
  isplitl [Hag]; · iexact Hag
  isplitl [Hdst] <;> iassumption

theorem into_ag (E : sProp 𝕄) (c : Dev nD) :
    iprop(rowP c (agF m) ∗ pt c cc0_scratch0 (accF m c) ∗ pt c cc0_scratch1 (rsF m c) ∗ P₅ m K E c) ⊢ iprop(kept m K ∗ agS m c 0 ∗ D₆ m E c) := by
  unfold D₆ P₅ rowP agR agRest
  rw [pieces]
  iintro ⟨Hrow, Ha, Hb, #HK, Hin, HO, Hat0, Hat1, Hsh, ⟨Hat2, Hat3, Ht2, Ht3, Hc3⟩, Hdst, HE⟩
  isplitr; · iexact HK
  isplitl [Hrow HO Ht2 Ht3 Hdst]
  · unfold agS
    iapply (send_intro m 2 3 (fun _ => oS c) 0 c)
    isplitl [HO]; · unfold dbt; rw [zero_add]; iexact HO
    isplitl [Hrow]; · unfold pays dmaPay; iexact Hrow
    isplitl [Hdst]; · unfold agDst; iexact Hdst
    isplitl [Ht2] <;> iassumption
  isplitl [Hin]; · iexact Hin
  isplitl [Ha]; · iexact Ha
  isplitl [Hb]; · iexact Hb
  isplitl [Hat0]; · iexact Hat0
  isplitl [Hat1]; · iexact Hat1
  isplitl [Hsh]; · iexact Hsh
  isplitl [Hat2 Hat3 Hc3]
  · isplitl [Hat2]; · iexact Hat2
    isplitl [Hat3] <;> iassumption
  iexact HE

theorem into_wait2 (E : sProp 𝕄) (c : Dev nD) : iprop(kept m K ∗ agS m c 15 ∗ D₆ m E c) ⊢ iprop(kept m K ∗ waitS m 2 0 c 0 ∗ D₇ m E c) := by
  unfold D₆ D₇ agS agRest
  iintro ⟨#HK, HS, Hin, Ha, Hb, Hat0, Hat1, Hsh, ⟨Hat2, Hat3, Hc3⟩, HE⟩
  ihave HS := (send_exit m 2 3 (fun _ => oS c) 0 c) $$ HS
  icases HS with ⟨HO, Hc2⟩
  isplitr; · iexact HK
  isplitl [HO Hc2 Hat2]
  · iapply (wait_intro m 2 0 c)
    isplitl [HO]; · iexact HO
    isplitl [Hc2] <;> iassumption
  isplitl [Hin]; · iexact Hin
  isplitl [Ha]; · iexact Ha
  isplitl [Hb]; · iexact Hb
  isplitl [Hat0]; · iexact Hat0
  isplitl [Hat1]; · iexact Hat1
  isplitl [Hsh]; · iexact Hsh
  isplitl [Hat3]; · iexact Hat3
  isplitl [Hc3] <;> iassumption

theorem into_wait3 (E : sProp 𝕄) (c : Dev nD) : iprop(kept m K ∗ waitS m 2 0 c 15 ∗ D₇ m E c) ⊢ iprop(kept m K ∗ waitS m 3 0 c 0 ∗ D₈ m E c) := by
  unfold D₇ D₈
  iintro ⟨#HK, HS, Hin, Ha, Hb, Hat0, Hat1, Hsh, Hat3, Hc3, HE⟩
  ihave HS := (wait_exit m 2 0 c) $$ HS
  icases HS with ⟨HO, Hp, Hat2⟩
  isplitr; · iexact HK
  isplitl [HO Hc3 Hat3]
  · iapply (wait_intro m 3 0 c)
    isplitl [HO]; · iexact HO
    isplitl [Hc3] <;> iassumption
  isplitl [Hin]; · iexact Hin
  isplitl [Ha]; · iexact Ha
  isplitl [Hb]; · iexact Hb
  isplitl [Hat0]; · iexact Hat0
  isplitl [Hat1]; · iexact Hat1
  isplitl [Hsh]; · iexact Hsh
  isplitl [Hat2]; · iexact Hat2
  isplitl [Hp] <;> iassumption

theorem out_wait3 (E : sProp 𝕄) (c : Dev nD) : iprop(kept m K ∗ waitS m 3 0 c 15 ∗ D₈ m E c) ⊢ iprop(pt c cc0_stg5_0 (agF m) ∗ P₉ m K E c) := by
  unfold D₈ P₉
  iintro ⟨#HK, HS, Hin, Ha, Hb, Hat0, Hat1, Hsh, Hat2, Hp, HE⟩
  ihave HS := (wait_exit m 3 0 c) $$ HS
  icases HS with ⟨HO, Hq, Hat3⟩
  isplitl [Hp Hq]
  · unfold pt
    rw [o_blocks, bigSep_devs c, pieces]
    unfold pays dmaPay
    isplitl [Hp] <;> iassumption
  isplitr; · iexact HK
  isplitl [HO]; · unfold dbt; iexact HO
  isplitl [Hin]; · iexact Hin
  isplitl [Ha]; · iexact Ha
  isplitl [Hb]; · iexact Hb
  isplitl [Hat0]; · iexact Hat0
  isplitl [Hat1]; · iexact Hat1
  isplitl [Hat2]; · iexact Hat2
  isplitl [Hat3]; · iexact Hat3
  isplitl [Hsh] <;> iassumption

/-- Every cell closes, and the body is over. -/
theorem out (c : Dev nD) (Kt : PUnit → sProp 𝕄) :
    iprop(pt c cc0_stg5_0 (outF m c) ∗ P₉ m K iprop(post m c -∗ Kt ⟨⟩) c) ⊢ (|={Set.univ}=> Kt ⟨⟩ : sProp 𝕄) := by
  unfold P₉ kept
  iintro ⟨Ho, ⟨#HR, #Hlev⟩, HO, Hin, Ha, Hb, Hat0, Hat1, Hat2, Hat3, Hsh, HE⟩
  unfold pos shut
  imod (close_all m K 0 c) $$ [Hat0] with Hz0
  · isplitr <;> iassumption
  imod (close_all m K 1 c) $$ [Hat1] with Hz1
  · isplitr <;> iassumption
  imod (close_all m K 2 c) $$ [Hat2] with Hz2
  · isplitr <;> iassumption
  imod (close_all m K 3 c) $$ [Hat3] with Hz3
  · isplitr <;> iassumption
  ihave #Hi := (records_at m K c none) $$ HR
  icases Hi with ⟨#HI, -⟩
  imod (Rounds.cell_close ER (Rd m) (Set.mem_univ (K (c, none))) (fun h => h) (R := 0 + 1) (duties_later m (cell c none))) $$ [Hsh] with HzB
  · isplitr <;> iassumption
  imodintro
  iapply HE
  unfold post Φ₁ zeros pt
  isplitl [Ha Hb HzB Hz0 Hz1 Hz2 Hz3]
  · isplitl [Ha]; · iexists _; iexact Ha
    isplitl [Hb]; · iexists _; iexact Hb
    isplitl [HzB]; · iexact HzB
    isplitl [Hz0]; · iexact Hz0
    isplitl [Hz1]; · iexact Hz1
    isplitl [Hz2] <;> iassumption
  isplitl [HO]; · iexact HO
  isplitl [Hin] <;> iassumption

end Body
end Cert.KernelIdeal.Moe

end
-- ==== Proof.KI.Sound.lean ====
/-
The body of the kernel on one device, effect by effect, from what the launch deals the device to the result and the
closed cells.
-/
module

public import proofs.«01_k».proof.Proof.KI.Body

@[expose] public section

noncomputable section

namespace Cert.KernelIdeal.Moe

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

theorem swap {A B D : sProp 𝕄} : iprop(A ∗ B ∗ D) ⊢ iprop(B ∗ A ∗ D) := by
  iintro ⟨HA, HB, HD⟩
  isplitl [HB]; · iexact HB
  isplitl [HA] <;> iassumption
theorem swap3 {A B C D : sProp 𝕄} : iprop(A ∗ B ∗ C ∗ D) ⊢ iprop(C ∗ B ∗ A ∗ D) := by
  iintro ⟨HA, HB, HC, HD⟩
  isplitl [HC]; · iexact HC
  isplitl [HB]; · iexact HB
  isplitl [HA] <;> iassumption

theorem may0 (c : Dev nD) (k : Fin 15) : (levAts L lv : sProp 𝕄) ⊢ MayWait (c : Thread nD τ) (csem (some (0, k))) () (dueTo 3 c 0) :=
  mayWait_low c _ (lv_0 c k) 0 15 15 (by rw [dueTo_end, dueBar_end, add_zero, add_zero])
theorem mayNone (c : Dev nD) (q : Fin 4) (k : Fin 15) : (levAts L lv : sProp 𝕄) ⊢ MayWait (c : Thread nD τ) (csem (some (q, k))) () (0 : T) := by
  rw [MayWait_zero]; iintro -; iempintro

set_option maxHeartbeats 3000000 in
set_option maxRecDepth 65536 in
theorem sound_body (c : Dev nD) (fa : Buf (Elt F) ((c : Thread nD τ).loc cc0_scratch0)) (fb : Buf (Elt F) ((c : Thread nD τ).loc cc0_scratch1))
    (fo : Buf (Elt F) ((c : Thread nD τ).loc cc0_stg5_0)) (Kt : PUnit → sProp 𝕄) :
    iprop(pre m K c fa fb fo ∗ (post m c -∗ Kt ⟨⟩))
      ⊢ wp frame (wpE (defs₀ (F := F)) 𝒱₀ (c : Thread nD τ) none) Set.univ
          (cc0_body xM (Memref.isWhole_whole _) rwM (Memref.isWhole_whole _) ixM (Memref.isWhole_whole _) ewM (Memref.isWhole_whole _) swM (Memref.isWhole_whole _)
            oM (Memref.isWhole_whole _) aM (Memref.isWhole_whole _) bM (Memref.isWhole_whole _) cc0_scratch2 cc0_scratch3 cc0_scratch4 cc0_scratch5) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton, k0_part30_eq_skeleton,
    k0_part31_eq_skeleton, k0_part32_eq_skeleton, k0_part33_eq_skeleton, k0_part34_eq_skeleton, k0_part35_eq_skeleton, k0_part36_eq_skeleton,
    k0_part37_eq_skeleton, k0_part38_eq_skeleton, k0_part39_eq_skeleton, k0_part40_eq_skeleton, k0_part41_eq_skeleton]
  unfold k0_part1_skel k0_part2_skel k0_part3_skel k0_part4_skel k0_part5_skel k0_part6_skel k0_part7_skel k0_part8_skel k0_part9_skel k0_part10_skel
    k0_part11_skel k0_part12_skel k0_part13_skel k0_part14_skel k0_part15_skel k0_part16_skel k0_part17_skel k0_part18_skel k0_part19_skel k0_part20_skel
    k0_part21_skel k0_part22_skel k0_part23_skel k0_part24_skel k0_part25_skel k0_part26_skel k0_part27_skel k0_part28_skel k0_part29_skel k0_part30_skel
    k0_part31_skel k0_part32_skel k0_part33_skel k0_part34_skel k0_part35_skel k0_part36_skel k0_part37_skel k0_part38_skel k0_part39_skel k0_part40_skel
    k0_part41_skel
  simp only [semSignalWord, semWaitWord, Prog.lift, Prog.bind_op, Prog.bind_ret, Prog.pure_eq_ret, wp_deviceId]
  -- the fifteen signals, with the landing blocks and the rows
  refine (into_sig m K _ c fa fb fo).trans ?_
  iterate 15 refine next_sig m K (dueTo 3 c 0 + dueTo 1 c 0) c (by decide) (dev_eq c (by decide)) rfl ?_
  refine (out_sig m K _ c fa fo).trans ?_
  -- the contributions of the experts held here
  refine next_load (mm := xM) (S := Finset.univ) c (f := (inX m c)) (v := (inX m c)) (Finset.subset_univ _) (Memref.readAt_unit_zero (Elt F) cc0_stg0_0 hz2 _ _) (inner (ins_x m c)) ?_
  refine next_load (mm := rwM) (S := Finset.univ) c (f := (inR m c)) (v := (inR m c)) (Finset.subset_univ _) (Memref.readAt_unit_zero (Elt F) cc0_stg1_0 hz2 _ _) (inner (ins_r m c)) ?_
  refine next_load (mm := ixM) (S := Finset.univ) c (f := (inI m c)) (v := (inI m c)) (Finset.subset_univ _) (Memref.readAt_unit_zero (Elt F) cc0_stg2_0 hz2 _ _) (inner (ins_i m c)) ?_
  refine next_load (mm := ewM) (S := Finset.univ) c (f := (inE m c)) (v := (inE m c)) (Finset.subset_univ _) (Memref.readAt_unit_zero (Elt F) cc0_stg3_0 hz3 _ _) (inner (ins_e m c)) ?_
  refine swap.trans ?_
  refine next_load (mm := aM) (S := Finset.univ) c (f := fa) (v := fa) (Finset.subset_univ _) (Memref.readAt_unit_zero (Elt F) cc0_scratch0 hz3 _ _) (head _ _) ?_
  refine next_store (mm := aM) (r := Rect.unit (s := S16x32x512) ![0, 0, 0] S16x32x512.size inb_S16x32x512_S16x32x512_0_0_0) (S := Finset.univ) c (f := fa) (Finset.subset_univ _)
    (head' _ _ (pt c cc0_scratch0 (accF m c)) _ (Entails.of_eq (congrArg (pt c cc0_scratch0) (Memref.write_access_unit_zero_univ (Elt F) cc0_scratch0 hz3 _ fa (accF m c))))) ?_
  -- the wait on the barrier, then the contributions out
  refine next_bar m K _ c fo rfl ?_
  iterate 15 refine next_rs m K c (by decide) (dev_eq c (by decide)) rfl rfl (by decide) (by decide) ?_
  refine (out_rs m K _ c fo).trans ?_
  refine next_load (mm := swM) (S := Finset.univ) c (f := (inS m c)) (v := (inS m c)) (Finset.subset_univ _) (Memref.readAt_unit_zero (Elt F) cc0_stg4_0 hz2 _ _) (inner (ins_s m c)) ?_
  refine (into_wait0 m K _ c fo).trans ?_
  iterate 15 refine next_wait m K 0 (dueTo 3 c 0) c (may0 c) (by decide) (by decide) (by exact rfl) ?_
  refine (into_wait1 m K _ c fo).trans ?_
  iterate 15 refine next_wait m K 1 (dueTo 3 c 0) c (mayWait_rs c) (by decide) (by decide) (by exact rfl) ?_
  refine (out_wait1 m K _ c fo).trans ?_
  -- the sum for this device's rows
  refine next_load (mm := aM) (S := Finset.univ) c (f := accF m c) (v := ownF m c) (Finset.subset_univ _) (read_own m c (off2_eq c) _) (head _ _) ?_
  refine swap.trans ?_
  refine next_load (mm := bM) (S := Finset.univ) c (f := (rsF m c)) (v := (rsF m c)) (Finset.subset_univ _) (Memref.readAt_unit_zero (Elt F) cc0_scratch1 hz3 _ _) (head _ _) ?_
  refine swap3.trans ?_
  refine next_load (mm := oM) (S := (oS c).view.set) c (f := fo) (row_loadOn c (off3_eq c) _) rfl (head _ _) ?_
  refine next_store (mm := oM) (r := Rect.unit (s := S512x512) (k0_off3 c) S32x512.size (k0_off3_inb c)) (S := (oS c).view.set) c (f := fo) (row_setOn c (off3_eq c) _) (head' _ _ (rowP c (agF m)) _ (Entails.of_eq (row_stored m c (off3_eq c) _ fo))) ?_
  -- the rows out
  refine (into_ag m K _ c).trans ?_
  iterate 15 refine next_ag m K c (by decide) (dev_eq c (by decide)) (by decide) (by decide) ?_
  refine (into_wait2 m K _ c).trans ?_
  iterate 15 refine next_wait m K 2 0 c (mayNone c 2) (by decide) (by decide) (by exact rfl) ?_
  refine (into_wait3 m K _ c).trans ?_
  iterate 15 refine next_wait m K 3 0 c (mayNone c 3) (by decide) (by decide) (by exact rfl) ?_
  refine (out_wait3 m K _ c).trans ?_
  -- the shared expert
  refine next_load (mm := oM) (S := Finset.univ) c (f := (agF m)) (v := (agF m)) (Finset.subset_univ _) (Memref.readAt_unit_zero (Elt F) cc0_stg5_0 hz2 _ _) (head _ _) ?_
  refine next_load (mm := oM) (S := Finset.univ) c (f := (agF m)) (v := (agF m)) (Finset.subset_univ _) (Memref.readAt_unit_zero (Elt F) cc0_stg5_0 hz2 _ _) (head _ _) ?_
  refine next_store (mm := oM) (r := Rect.unit (s := S512x512) ![0, 0] S512x512.size inb_S512x512_S512x512_0_0) (S := Finset.univ) c (f := agF m) (Finset.subset_univ _)
    (head' _ _ (pt c cc0_stg5_0 (outF m c)) _ (Entails.of_eq (congrArg (pt c cc0_stg5_0) (Memref.write_access_unit_zero_univ (Elt F) cc0_stg5_0 hz2 _ (agF m) (outF m c))))) ?_
  rw [wp_ret]
  exact out m K c Kt

end Cert.KernelIdeal.Moe

end
-- ==== Proof.KI.Launch.lean ====
/-
The launch: the cells, the tokens and the credits dealt to the devices, and the run of the whole mesh.
-/
module

public import proofs.«01_k».proof.Proof.KI.Sound
public import Idealize.ShloMosaic.Lib.Pipeline.CollectiveSegs

@[expose] public section

noncomputable section

namespace Cert.KernelIdeal.Moe

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body, as the pipeline asks for it -/

/-- A staging buffer of device `c` at contents `X`. -/
def stg (c : Dev nD) (b : Ref sig .tc) (X : Buf (Elt F) ((c : Thread nD τ).loc b)) : sProp 𝕄 :=
  iprop(∃ f : Buf (Elt F) ((c : Thread nD τ).loc b), ⌜f = X⌝ ∗ ((c : Thread nD τ).loc b) ↦{fullShare} f)

theorem stg_pt (c : Dev nD) (b : Ref sig .tc) (X : Buf (Elt F) ((c : Thread nD τ).loc b)) : stg c b X ⊢ pt c b X := by
  unfold stg pt; iintro ⟨%f, %h, H⟩; subst h; iexact H
theorem pt_stg (c : Dev nD) (b : Ref sig .tc) (X : Buf (Elt F) ((c : Thread nD τ).loc b)) : pt c b X ⊢ stg c b X := by
  unfold stg pt; iintro H; iexists X; isplitr; · (ipureintro; rfl)
  iexact H

def bodyPre' (c : Dev nD) : sProp 𝕄 :=
  iprop(Φ₀ m c ∗ (dats m 0 c).owesAt () t0_0.castSucc
    ∗ (∃ d, stg c cc0_stg0_0 ((dats m 0 c).before (0 : Fin 6) t0_0 d)) ∗ (∃ d, stg c cc0_stg1_0 ((dats m 0 c).before (1 : Fin 6) t0_0 d))
    ∗ (∃ d, stg c cc0_stg2_0 ((dats m 0 c).before (2 : Fin 6) t0_0 d)) ∗ (∃ d, stg c cc0_stg3_0 ((dats m 0 c).before (3 : Fin 6) t0_0 d))
    ∗ (∃ d, stg c cc0_stg4_0 ((dats m 0 c).before (4 : Fin 6) t0_0 d)) ∗ (∃ d, stg c cc0_stg5_0 ((dats m 0 c).before (5 : Fin 6) t0_0 d)))
def bodyPost (c : Dev nD) : sProp 𝕄 :=
  iprop(Φ₁ c ∗ (dats m 0 c).owesAt () t0_0.succ ∗ stg c cc0_stg0_0 ((dats m 0 c).after (0 : Fin 6) t0_0) ∗ stg c cc0_stg1_0 ((dats m 0 c).after (1 : Fin 6) t0_0) ∗ stg c cc0_stg2_0 ((dats m 0 c).after (2 : Fin 6) t0_0)
    ∗ stg c cc0_stg3_0 ((dats m 0 c).after (3 : Fin 6) t0_0) ∗ stg c cc0_stg4_0 ((dats m 0 c).after (4 : Fin 6) t0_0) ∗ stg c cc0_stg5_0 ((dats m 0 c).after (5 : Fin 6) t0_0))

theorem before_0 (c : Dev nD) (d) : (dats m 0 c).before (0 : Fin 6) t0_0 d = inX m c := by unfold Dat.before; rw [if_pos (fetch0_0 t0_0)]; rfl
theorem before_1 (c : Dev nD) (d) : (dats m 0 c).before (1 : Fin 6) t0_0 d = inR m c := by unfold Dat.before; rw [if_pos (fetch0_1 t0_0)]; rfl
theorem before_2 (c : Dev nD) (d) : (dats m 0 c).before (2 : Fin 6) t0_0 d = inI m c := by unfold Dat.before; rw [if_pos (fetch0_2 t0_0)]; rfl
theorem before_3 (c : Dev nD) (d) : (dats m 0 c).before (3 : Fin 6) t0_0 d = inE m c := by unfold Dat.before; rw [if_pos (fetch0_3 t0_0)]; rfl
theorem before_4 (c : Dev nD) (d) : (dats m 0 c).before (4 : Fin 6) t0_0 d = inS m c := by unfold Dat.before; rw [if_pos (fetch0_4 t0_0)]; rfl

/-- A staging buffer whose contents before the body are known. -/
theorem stg_at (c : Dev nD) (b : Ref sig .tc) {α : Type} {f : α → Buf (Elt F) ((c : Thread nD τ).loc b)} {X : Buf (Elt F) ((c : Thread nD τ).loc b)}
    (h : ∀ d, f d = X) : iprop(∃ d, stg c b (f d)) ⊢ pt c b X := by
  iintro ⟨%d, H⟩
  rw [h d]; iapply (stg_pt c b X); iexact H

theorem owes_in (c : Dev nD) : ((dats m 0 c).owesAt () t0_0.castSucc : sProp 𝕄) ⊢ dbt c (O₀ c) := by
  unfold Dat.owesAt Pipeline.owesWithin dbt
  iintro ⟨%W, %hW, HO⟩; iexists W; iexact HO
theorem owes_out (c : Dev nD) : (dbt c 0 : sProp 𝕄) ⊢ (dats m 0 c).owesAt () t0_0.succ := by
  unfold Dat.owesAt Pipeline.owesWithin dbt
  rw [show (dats m 0 c).owed t0_0.succ = 0 from rfl]
  iintro ⟨%W, HO⟩; iexists W; isplitr; · (ipureintro; exact fun _ _ => Or.inl trivial)
  iexact HO

theorem post_out (c : Dev nD) : post m c ⊢ bodyPost m c := by
  unfold post bodyPost ins
  iintro ⟨HP, HO, ⟨H0, H1, H2, H3, H4⟩, H5⟩
  isplitl [HP]; · iexact HP
  isplitl [HO]; · iapply (owes_out m c); iexact HO
  isplitl [H0]; · iapply (pt_stg c cc0_stg0_0 ((dats m 0 c).after (0 : Fin 6) t0_0)); iexact H0
  isplitl [H1]; · iapply (pt_stg c cc0_stg1_0 ((dats m 0 c).after (1 : Fin 6) t0_0)); iexact H1
  isplitl [H2]; · iapply (pt_stg c cc0_stg2_0 ((dats m 0 c).after (2 : Fin 6) t0_0)); iexact H2
  isplitl [H3]; · iapply (pt_stg c cc0_stg3_0 ((dats m 0 c).after (3 : Fin 6) t0_0)); iexact H3
  isplitl [H4]; · iapply (pt_stg c cc0_stg4_0 ((dats m 0 c).after (4 : Fin 6) t0_0)); iexact H4
  rw [show outF m c = (dats m 0 c).after (5 : Fin 6) t0_0 from rfl]
  iapply (pt_stg c cc0_stg5_0 _); iexact H5

/-- The body on its staging buffers. -/
def body₀ : Prog (TpuEff nD τ sig (Elt F) Λ₀ .tc) PUnit :=
  cc0_body xM (Memref.isWhole_whole _) rwM (Memref.isWhole_whole _) ixM (Memref.isWhole_whole _) ewM (Memref.isWhole_whole _)
    swM (Memref.isWhole_whole _) oM (Memref.isWhole_whole _) aM (Memref.isWhole_whole _) bM (Memref.isWhole_whole _)
    cc0_scratch2 cc0_scratch3 cc0_scratch4 cc0_scratch5
theorem body_eq : defs₀ (F := F) Proc.tc 0 (t0_0, cfg0.slots t0_0) = body₀ := rfl

set_option maxRecDepth 4000 in
theorem body_obligation (c : Dev nD) : BodyObligation (dats (F := F) m 0 c) (defs₀ (F := F)) 𝒱₀ () Set.univ := fun t => by
  rw [fin_N0 t]
  rw [bigSep_W0, bigSep_W0]
  simp only [owns_whole_eq]
  rw [body_eq]
  refine Entails.trans (Q := bodyPre' m c) (Entails.of_eq rfl) ?_
  unfold body₀
  unfold bodyPre' Φ₀ start
  iintro ⟨⟨⟨⟨%K, Hg⟩, Hc, Hl⟩, ⟨%fa, HA⟩, ⟨%fb, HB⟩⟩, Ho, H0, H1, H2, H3, H4, ⟨%d5, H5⟩⟩
  iapply (sound_body m K c fa fb ((dats m 0 c).before (5 : Fin 6) t0_0 d5) _)
  unfold pre ins
  isplitr []
  · isplitl [Hg]; · iexact Hg
    isplitl [Hc]; · iexact Hc
    isplitl [Hl]; · iexact Hl
    isplitl [HA]; · unfold pt; iexact HA
    isplitl [HB]; · unfold pt; iexact HB
    isplitl [Ho]; · iapply (owes_in m c); iexact Ho
    isplitl [H0 H1 H2 H3 H4]
    · isplitl [H0]; · iapply (stg_at c cc0_stg0_0 (before_0 m c)); iexact H0
      isplitl [H1]; · iapply (stg_at c cc0_stg1_0 (before_1 m c)); iexact H1
      isplitl [H2]; · iapply (stg_at c cc0_stg2_0 (before_2 m c)); iexact H2
      isplitl [H3]; · iapply (stg_at c cc0_stg3_0 (before_3 m c)); iexact H3
      iapply (stg_at c cc0_stg4_0 (before_4 m c)); iexact H4
    iapply (stg_pt c cc0_stg5_0 _); iexact H5
  · iintro H
    ihave H' := (post_out m c) $$ H
    unfold bodyPost stg
    icases H' with ⟨HP, HO, H0, H1, H2, H3, H4, H5⟩
    isplitl [HP]; · rw [show (dats m 0 c).Φ t0_0.succ = Φ₁ c from rfl]; iexact HP
    isplitl [HO]; · iexact HO
    isplitl [H0]; · iexact H0
    isplitl [H1]; · iexact H1
    isplitl [H2]; · iexact H2
    isplitl [H3]; · iexact H3
    isplitl [H4]; · iexact H4
    iexact H5

/-! ## The cells and the tokens -/

/-- A device's own cells besides the barrier's. -/
def osem (qk : Fin 4 × Fin 15) : SemLoc sig := csem (some qk)
theorem ownSemFacts : Pipeline.OwnSemFacts cfg0.spec osem := by decide

theorem share_eq (c : Dev nD) (w : Fin cfg0.W) : (dats m 0 c).share w = fullShare := by unfold Dat.share; split <;> rfl

def kcell (ci : Dev nD × CI) : GSem nD τ sig := cell ci.1 ci.2
theorem kcell_injective : Function.Injective kcell := by
  rintro ⟨c, i⟩ ⟨c', i'⟩ h
  obtain ⟨rfl, rfl⟩ := cell_inj h; rfl
def myCells : Finset (GSem nD τ sig) := Finset.univ.map ⟨kcell, kcell_injective⟩

/-- The duties of a device's own cells: fifteen on its barrier, one on each of the others. -/
def tokOf (cj : Dev nD × (Option (Fin 4) × Fin 15)) : GSem nD τ sig × ℕ × Fin 15 :=
  (cell cj.1 (cj.2.1.map fun q => (q, cj.2.2)), 0, if cj.2.1 = none then cj.2.2 else 0)
theorem tokOf_injective : Function.Injective tokOf := by
  rintro ⟨c, q, k⟩ ⟨c', q', k'⟩ h
  obtain ⟨rfl, h2⟩ := cell_inj (congrArg Prod.fst h)
  have h3 := congrArg (fun x : GSem nD τ sig × ℕ × Fin 15 => x.2.2) h
  rcases q with _ | q <;> rcases q' with _ | q' <;> simp [tokOf] at h2 h3
  · rw [h3]
  · rw [h2.1, h2.2]
def myToks : Finset (GSem nD τ sig × ℕ × Fin 15) := Finset.univ.map ⟨tokOf, tokOf_injective⟩

def u₀ : UU :=
  (initOf (Pipeline.cells cfgs cellOf_inj) (Pipeline.launchToks cfgs cellOf_inj), initOf myCells myToks)

theorem bigSep_option {M : Type} [URA M] {I : Type} [Fintype I] [DecidableEq I] (Φ : Option I → sProp M) :
    bigSep Finset.univ Φ = iprop(Φ none ∗ bigSep Finset.univ fun i => Φ (some i)) := by
  have h : (Finset.univ : Finset (Option I)) = insert none (Finset.univ.map Function.Embedding.some) := by
    ext o; rcases o with _ | i <;> simp
  rw [h, bigSep_insert (by simp), BI.bigSep_map]; rfl
theorem bigSep_fin4 {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ
/-- Over a device's cells: the barrier, then the four families. -/
theorem bigSep_cells {M : Type} [URA M] (Φ : CI → sProp M) :
    bigSep Finset.univ Φ = iprop(Φ none ∗ (bigSep Finset.univ fun k : Fin 15 => Φ (some (0, k))) ∗ (bigSep Finset.univ fun k : Fin 15 => Φ (some (1, k)))
      ∗ (bigSep Finset.univ fun k : Fin 15 => Φ (some (2, k))) ∗ (bigSep Finset.univ fun k : Fin 15 => Φ (some (3, k)))) := by
  rw [bigSep_option, BI.bigSep_univ_prod, bigSep_fin4]

/-- The duty tokens of device `c`'s own cells. -/
def barOwn (c : Dev nD) : sProp 𝕄 := bigSep Finset.univ fun k : Fin 15 => dutyTok ER (cell c none) 0 k
def toks (c : Dev nD) : sProp 𝕄 := iprop(barOwn c ∗ sendToks 0 c ∗ sendToks 1 c ∗ sendToks 2 c ∗ sendToks 3 c)

def G (c : Dev nD) : sProp 𝕄 :=
  iprop((bigSep Finset.univ fun i : CI => roundState ER (Rd m) (cell c i) 0)
    ∗ (bigSep Finset.univ fun i : CI => atPos ER (cell c i) 0 ∅ 0) ∗ (bigSep Finset.univ fun i : CI => reached ER (cell c i) 0) ∗ toks c)
def G' (c : Dev nD) : sProp 𝕄 := iprop(∃ K, ghost m K c)

theorem fund_cells : BI.own (ER (initOf myCells myToks)) ⊢ (|==> bigSep Finset.univ (G m) : sProp 𝕄) := by
  have hX (Φ : GSem nD τ sig → sProp 𝕄) : bigSep myCells Φ = bigSep Finset.univ fun c : Dev nD => bigSep Finset.univ fun i : CI => Φ (cell c i) := by
    unfold myCells; rw [BI.bigSep_map, BI.bigSep_univ_prod]; rfl
  have hT : bigSep myToks (fun x => (dutyTok ER x.1 x.2.1 x.2.2 : sProp 𝕄)) = bigSep Finset.univ fun c : Dev nD => toks c := by
    unfold myToks; rw [BI.bigSep_map, BI.bigSep_univ_prod]
    exact bigSep_congr fun c _ => by unfold toks; rw [BI.bigSep_univ_prod, bigSep_option, bigSep_fin4]; rfl
  iintro HX
  imod (Rounds.fund ER (Rd m) myCells myToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

theorem ownSems0_eq (c : Dev nD) : (Pipeline.ownSems0 (Ix := Unit) (Name := ℕ) (U := UU) (Lvl := ℕ) (Val := Elt F) (τ := τ) osem c : sProp 𝕄)
    = iprop(zeros 0 c ∗ zeros 1 c ∗ zeros 2 c ∗ zeros 3 c) := by
  unfold Pipeline.ownSems0; rw [BI.bigSep_univ_prod, bigSep_fin4]; rfl
theorem unscopedSems0_eq (c : Dev nD) : (unscopedSems0 c : sProp 𝕄) = semVal (cell c none) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (cell c i) 0 : sProp 𝕄) := by
  rw [ownSems0_eq, unscopedSems0_eq, bigSep_cells]
  iintro ⟨H, HB⟩
  isplitl [HB]; · iexact HB
  iexact H

/-- Every cell of device `c` opened as an invariant. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (Rd m) κ (cell c i)))
          ∗ (bigSep Finset.univ fun i : CI => atPos ER (cell c i) 0 ∅ 0) ∗ (bigSep Finset.univ fun i : CI => reached ER (cell c i) 0) ∗ toks c) := by
  unfold G
  iintro ⟨Hos, Hus, Hst, Hat, Hr, Htok⟩
  ihave Hv := (sems0_eq (F := F) c) $$ [Hos Hus]
  · isplitl [Hos] <;> iassumption
  have halloc : iprop((bigSep Finset.univ fun i : CI => semVal (cell c i) 0) ∗ bigSep Finset.univ fun i : CI => roundState ER (Rd m) (cell c i) 0)
      ⊢ (|={Set.univ}=> bigSep Finset.univ fun i : CI => iprop(∃ κ : ℕ, cellInv ER (Rd m) κ (cell c i)) : sProp 𝕄) := by
    rw [← bigSep_sep']
    exact (bigSep_mono fun i _ => (Rounds.body_intro ER (Rd m) (cell c i)).trans inv_alloc).trans (bigSep_fupd _ _)
  imod halloc $$ [Hv Hst] with Hinv
  · isplitl [Hv] <;> iassumption
  imodintro
  isplitl [Hinv]; · iexact Hinv
  isplitl [Hat]; · iexact Hat
  isplitl [Hr]; · iexact Hr
  iexact Htok

/-- A family of tokens, one per device and offset, each handed to the device that pays it. -/
theorem deal (Φ : Dev nD → Fin 15 → sProp 𝕄) :
    (bigSep Finset.univ fun c : Dev nD => bigSep Finset.univ fun k : Fin 15 => Φ c k)
      = bigSep Finset.univ fun c : Dev nD => bigSep Finset.univ fun k : Fin 15 => Φ (peer c k) k := by
  rw [Pipeline.bigSep_univ_comm, Pipeline.bigSep_univ_comm (fun (c : Dev nD) (k : Fin 15) => Φ (peer c k) k)]
  exact bigSep_congr fun k _ => bigSep_univ_equiv (around k) (fun c : Dev nD => Φ c k)

/-- The tokens a device pays with. -/
def payToks (c : Dev nD) : sProp 𝕄 := iprop(barToks c ∗ sendToks 0 c ∗ recvToks 1 c ∗ sendToks 2 c ∗ recvToks 3 c)

theorem toks_around : (bigSep Finset.univ fun c : Dev nD => (toks c : sProp 𝕄)) = bigSep Finset.univ fun c : Dev nD => payToks c := by
  unfold toks payToks
  simp only [bigSep_sep']
  rw [show (bigSep Finset.univ fun c : Dev nD => (barOwn c : sProp 𝕄)) = bigSep Finset.univ fun c : Dev nD => barToks c from
      deal fun c k => dutyTok ER (cell c none) 0 k,
    show (bigSep Finset.univ fun c : Dev nD => (sendToks 1 c : sProp 𝕄)) = bigSep Finset.univ fun c : Dev nD => recvToks 1 c from
      deal fun c k => dutyTok ER (cell c (some (1, k))) 0 0,
    show (bigSep Finset.univ fun c : Dev nD => (sendToks 3 c : sProp 𝕄)) = bigSep Finset.univ fun c : Dev nD => recvToks 3 c from
      deal fun c k => dutyTok ER (cell c (some (3, k))) 0 0]

theorem linear_intro (c : Dev nD) : iprop((bigSep Finset.univ fun i : CI => (atPos ER (cell c i) 0 ∅ 0 : sProp 𝕄)) ∗ payToks c) ⊢ linear c := by
  rw [bigSep_cells]; unfold linear payToks pos
  iintro ⟨⟨Hb, H0, H1, H2, H3⟩, Ht⟩
  isplitl [Hb]; · iexact Hb
  isplitl [H0]; · iexact H0
  isplitl [H1]; · iexact H1
  isplitl [H2]; · iexact H2
  isplitl [H3]; · iexact H3
  iexact Ht

/-- With the records known to all, each device's holdings. -/
theorem deal_out (K : Dev nD × CI → ℕ) : iprop(records m K ∗ bigSep Finset.univ fun c : Dev nD => (linear c : sProp 𝕄)) ⊢ bigSep Finset.univ (G' m) := by
  have h (c : Dev nD) : iprop(records m K ∗ linear c) ⊢ G' m c := by
    unfold G' ghost; iintro H; iexists K; iexact H
  exact (sep_mono_left (BI.bigSep_of_persistent Finset.univ (records m K))).trans (by rw [← bigSep_sep']; exact bigSep_mono fun c _ => h c)

theorem regroup :
    (bigSep Finset.univ fun c : Dev nD => iprop((bigSep Finset.univ fun i : CI => iprop(∃ κ : ℕ, cellInv ER (Rd m) κ (cell c i)))
          ∗ (bigSep Finset.univ fun i : CI => atPos ER (cell c i) 0 ∅ 0) ∗ (bigSep Finset.univ fun i : CI => reached ER (cell c i) 0) ∗ toks c) : sProp 𝕄)
      ⊢ bigSep Finset.univ (G' m) := by
  rw [bigSep_sep', bigSep_sep', bigSep_sep', ← BI.bigSep_univ_prod (fun ci : Dev nD × CI => iprop(∃ κ : ℕ, cellInv ER (Rd m) κ (cell ci.1 ci.2))),
    ← BI.bigSep_univ_prod (fun ci : Dev nD × CI => (reached ER (cell ci.1 ci.2) 0 : sProp 𝕄)), toks_around]
  iintro ⟨HI, Hat, HR, Htk⟩
  ihave HK := (BI.bigSep_exists_pi Finset.univ (fun (ci : Dev nD × CI) (κ : ℕ) => (cellInv ER (Rd m) κ (cell ci.1 ci.2) : sProp 𝕄))) $$ HI
  icases HK with ⟨%K, HI⟩
  iapply (deal_out m K)
  isplitl [HI HR]
  · unfold records; rw [bigSep_sep']
    isplitl [HI] <;> iassumption
  · iapply ((Entails.of_eq (bigSep_sep' Finset.univ (fun c : Dev nD => bigSep Finset.univ fun i : CI => (atPos ER (cell c i) 0 ∅ 0 : sProp 𝕄)) payToks).symm).trans
      (bigSep_mono fun c _ => linear_intro c))
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- What the devices owe a cell, of one unit per offset. -/
theorem owed_sum (i : Fin 15 → CI) (a : ℕ) (c : Dev nD) (j : CI) :
    (∑ d : Dev nD, (∑ k : Fin 15, tallyAt (cell (peer d k) (i k)) () a : T) (cell c j) ()) = ∑ k : Fin 15, if i k = j then a else 0 := by
  have h (d : Dev nD) (k : Fin 15) : (tallyAt (cell (peer d k) (i k)) () a : T) (cell c j) () = if d = orig c k then (if i k = j then a else 0) else 0 := by
    rw [tallyAt_apply]
    by_cases hd : d = orig c k
    · subst hd; rw [peer_orig, if_pos rfl]
      by_cases hi : i k = j
      · rw [hi, if_pos ⟨rfl, rfl⟩, if_pos rfl]
      · rw [if_neg (fun hh => hi (cell_inj hh.1).2.symm), if_neg hi]
    · rw [if_neg hd, if_neg]
      rintro ⟨hh, -⟩
      exact hd (by rw [(cell_inj hh).1, orig_peer])
  simp only [Finset.sum_apply, Finsupp.finset_sum_apply, h]
  rw [Finset.sum_comm]
  refine Finset.sum_congr rfl fun k _ => ?_
  rw [Finset.sum_ite_eq' Finset.univ (orig c k), if_pos (Finset.mem_univ _)]

theorem credit_at (c : Dev nD) (j : CI) : launchCredit (Pipeline.owing O₀) 0 (cell c j) ()
    = ((∑ k : Fin 15, if some ((3 : Fin 4), k) = j then N else 0) + ∑ k : Fin 15, if some ((1 : Fin 4), k) = j then N else 0)
      + ∑ k : Fin 15, if (none : CI) = j then 1 else 0 := by
  rw [Pipeline.launchCredit_owing, ← owed_sum (fun k => some (3, k)), ← owed_sum (fun k => some (1, k)), ← owed_sum (fun _ => none),
    ← Finset.sum_add_distrib, ← Finset.sum_add_distrib]
  refine Finset.sum_congr rfl fun d _ => ?_
  unfold O₀ dueTo dueBar
  rw [ge_zero, Pi.add_apply, Finsupp.add_apply, Pi.add_apply, Finsupp.add_apply]

theorem tally_of {c : Dev nD} {j : CI} {n : ℕ} (h : launchCredit (Pipeline.owing O₀) 0 (cell c j) () = n) :
    tallyOn (cell c j) (launchCredit (Pipeline.owing O₀) 0 (cell c j)) = (tallyAt (cell c j) () n : T) := by
  unfold tallyAt; refine congrArg _ (Finsupp.ext fun u => ?_); cases u
  rw [h, Finsupp.single_eq_same]

theorem credit_bar (c : Dev nD) : launchCredit (Pipeline.owing O₀) 0 (cell c none) () = 15 := by
  rw [credit_at]; simp
theorem credit_recv (c : Dev nD) (q : Fin 4) (hq : q = 1 ∨ q = 3) (k : Fin 15) : launchCredit (Pipeline.owing O₀) 0 (cell c (some (q, k))) () = N := by
  rw [credit_at]
  rcases hq with rfl | rfl <;> simp

/-- The launch's credits of a family. -/
def fam (q : Fin 4) (c : Dev nD) : sProp 𝕄 :=
  bigSep Finset.univ fun k : Fin 15 => cred (tallyOn (cell c (some (q, k))) (launchCredit (Pipeline.owing O₀) 0 (cell c (some (q, k)))))

theorem creds_intro (c : Dev nD) : (Pipeline.launchCred O₀ c : sProp 𝕄) ⊢ creds c := by
  unfold Pipeline.launchCred
  refine (BI.bigSep_subset (Finset.subset_univ (Finset.univ.map ⟨csem, fun _ _ h => csem_inj h⟩))).trans ?_
  rw [BI.bigSep_map, bigSep_cells]
  unfold creds crs
  have hb := tally_of (credit_bar c)
  have h1 : (fun k : Fin 15 => (cred (tallyAt (cell c (some (1, k))) () N) : sProp 𝕄))
      = fun k => cred (tallyOn (cell c (some (1, k))) (launchCredit (Pipeline.owing O₀) 0 (cell c (some (1, k))))) :=
    funext fun k => by rw [tally_of (credit_recv c 1 (.inl rfl) k)]
  have h3 : (fun k : Fin 15 => (cred (tallyAt (cell c (some (3, k))) () N) : sProp 𝕄))
      = fun k => cred (tallyOn (cell c (some (3, k))) (launchCredit (Pipeline.owing O₀) 0 (cell c (some (3, k))))) :=
    funext fun k => by rw [tally_of (credit_recv c 3 (.inr rfl) k)]
  rw [← hb, h1, h3]
  show iprop(cred (tallyOn (cell c none) (launchCredit (Pipeline.owing O₀) 0 (cell c none)))
      ∗ fam 0 c ∗ fam 1 c ∗ fam 2 c ∗ fam 3 c) ⊢ iprop(_ ∗ fam 1 c ∗ fam 3 c)
  iintro ⟨HB, -, H1, -, H3⟩
  isplitl [HB]; · iexact HB
  isplitl [H1]; · iexact H1
  iexact H3

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁
  iintro ⟨HA, HB, Hz, H0, H1, H2, H3⟩
  isplitl [Hz]; · iexact Hz
  isplitl [H0 H1 H2 H3]
  · isplitl [H0]; · iexact H0
    isplitl [H1]; · iexact H1
    isplitl [H2]; · iexact H2
    iexact H3
  isplitl [HA]; · iexact HA
  iexact HB

theorem waits (c : Dev nD) : (levAts L lv : sProp 𝕄) ⊢ Pipeline.cellsWaits cfgs (dats m) () 0 c :=
  Pipeline.cellsWaits_intro cfgs (dats m) () 0 c fun w s t => by
    have hb : lv ((c : Thread nD τ), SemLoc.dma ((cfg0.win w).sem s)) () = 0 := by fin_cases w <;> fin_cases s <;> rfl
    rcases t with ⟨_ | _, ht⟩
    · exact mayWait_low c _ hb 0 0 0 rfl
    · show _ ⊢ MayWait _ _ () 0
      rw [MayWait_zero]; iintro -; iempintro

/-- What the run leaves in each window's array. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Moe
-- ==== Proof.KI.Run.lean ====
/-
What the run leaves: the arguments as they were, the result array, every counter at zero; and what the staged inputs are.
-/
module

public import proofs.«01_k».proof.Proof.KI.Launch
public import Idealize.ShloMosaic.Lib.Pipeline.ValueKit

@[expose] public section

noncomputable section

namespace Cert.KernelIdeal.Moe

open Cert.KernelIdeal Cert.KernelIdeal.Gen

open Idealize.ShloMosaic Idealize.ShloMosaic.TcCoe Idealize.ShloMosaic.ValueIdx
open Idealize.SL Idealize.SL.RA Idealize.SL.BI Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- Every input window's block index at the one point. -/
theorem idx : ∀ t : Fin cfg0.N, win0_0.index t = ![0, 0] ∧ win0_1.index t = ![0, 0] ∧ win0_2.index t = ![0, 0] ∧ win0_3.index t = ![0, 0, 0]
    ∧ win0_4.index t = ![0, 0] :=
  (by decide +kernel : ∀ t : Fin grid0.N, _)

/-- The one block of each input window is its whole array. -/
theorem inX_eq (c : Dev nD) : inX m c = m ((c : Thread nD τ).loc main_arg0) := by
  unfold inX; blk_ext! [iblk, V, idx t0_0]
theorem inR_eq (c : Dev nD) : inR m c = m ((c : Thread nD τ).loc main_arg1) := by
  unfold inR; blk_ext! [iblk, V, idx t0_0]
theorem inI_eq (c : Dev nD) : inI m c = m ((c : Thread nD τ).loc main_arg2) := by
  unfold inI; blk_ext! [iblk, V, idx t0_0]
theorem inE_eq (c : Dev nD) : inE m c = m ((c : Thread nD τ).loc main_arg3) := by
  unfold inE; blk_ext! [iblk, V, idx t0_0]
theorem inS_eq (c : Dev nD) : inS m c = m ((c : Thread nD τ).loc main_arg4) := by
  unfold inS; blk_ext! [iblk, V, idx t0_0]

/-- The result array at the end. -/
theorem final_out (c : Dev nD) : finalA m c (5 : Fin 6) = outF m c := by
  refine (dats m 0 c).arrAt_eq_of_after_last (5 : Fin 6) t0_0 (by decide +kernel) _ (fun j => ?_)
  rw [show (dats m 0 c).after (5 : Fin 6) t0_0 = outF m c from rfl]; rfl

/-- The whole run: the result array, the arguments and the counters. -/
theorem run_all : θ_run defs (onTc (τ := τ) (main (F := F))) ⟨m, fun _ => 0, ρ⟩ (fun r => (∀ c : Dev nD,
    r.2.mem ((c.tc : Thread nD τ).loc main_v1) = outF m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) ∧ r.2.sem = fun _ => 0) :=
  (θ_run defs _ _).mono (fun r h => ⟨fun c => ⟨(h.1 c (5 : Fin 6)).trans (final_out m c),
      (h.1 c (0 : Fin 6)).trans ((dats m 0 c).arrAt_in (0 : Fin 6) rfl _), (h.1 c (1 : Fin 6)).trans ((dats m 0 c).arrAt_in (1 : Fin 6) rfl _),
      (h.1 c (2 : Fin 6)).trans ((dats m 0 c).arrAt_in (2 : Fin 6) rfl _), (h.1 c (3 : Fin 6)).trans ((dats m 0 c).arrAt_in (3 : Fin 6) rfl _),
      (h.1 c (4 : Fin 6)).trans ((dats m 0 c).arrAt_in (4 : Fin 6) rfl _)⟩, h.2⟩) (run_main m ρ)

end Cert.KernelIdeal.Moe
-- ==== Proof.V.Spec.lean ====
/-
  What the layer computes, over the extended reals, written with sums: the router's probabilities, the weight a token
  gives its expert, and a token's result. Then the two facts about them that the equation of kernel and reference needs:
  a token's weight is finite and at least zero when tokens and router are finite, so that it may be taken out of a sum.
-/
module

public import Idealize.ShloMosaic.Lib.Pointwise
public import Idealize.ShloMosaic.PureOps.Ideal

@[expose] public section

noncomputable section

namespace Cert.Moe

open Idealize.ShloMosaic

section
variable (x : (⟨2, ![512, 256]⟩ : Shape).Idx → EReal) (r : (⟨2, ![256, 64]⟩ : Shape).Idx → EReal)

/-- The router's score of token `i` for expert `e`. -/
def score (i : Fin 512) (e : Fin 64) : EReal := ∑ k : Fin 256, x (ix2 i k) * r (ix2 k e)
/-- A token's largest score. -/
def top (i : Fin 512) : EReal := Finset.fold max (Ideal.ofBits FTy.f32 0xFF800000#32) (score x r i) Finset.univ
/-- A token's probability of an expert: the softmax of its scores. -/
def prob (i : Fin 512) (e : Fin 64) : EReal :=
  Ideal.div (Ideal.exp (score x r i e - top x r i)) (∑ e' : Fin 64, Ideal.exp (score x r i e' - top x r i))
/-- The weight token `i` gives the expert numbered `n`: its probability, and zero if there is no such expert. -/
def weight (n : BitVec 32) (i : Fin 512) : EReal := if h : n.toNat < 64 then prob x r i ⟨n.toNat, h⟩ else 0

/-- The weight as a sum over the experts, of which one is meant at most. -/
theorem weight_eq_sum (n : BitVec 32) (i : Fin 512) :
    weight x r n i = ∑ e : Fin 64, if BitVec.ofNat 32 e.val = n then prob x r i e else 0 := by
  have hm : ∀ e : Fin 64, BitVec.ofNat 32 e.val = n ↔ e.val = n.toNat := fun e => by
    rw [← BitVec.toNat_inj, BitVec.toNat_ofNat, Nat.mod_eq_of_lt (by omega)]
  simp only [hm]
  unfold weight
  split
  · next h =>
    rw [Finset.sum_eq_single (⟨n.toNat, h⟩ : Fin 64) (fun e _ he => if_neg fun h' => he (Fin.ext h'))
      (fun h' => absurd (Finset.mem_univ _) h')]
    exact (if_pos rfl).symm
  · next h => exact (Finset.sum_eq_zero fun e _ => if_neg fun h' => h (by rw [← h']; exact e.isLt)).symm

/-- An extended real that is neither infinity. -/
def IsFin (a : EReal) : Prop := a ≠ ⊥ ∧ a ≠ ⊤

theorem coe_of_fin {a : EReal} (h : IsFin a) : ∃ b : ℝ, a = b := ⟨a.toReal, (EReal.coe_toReal h.2 h.1).symm⟩
theorem fin_coe (b : ℝ) : IsFin (b : EReal) := ⟨EReal.coe_ne_bot b, EReal.coe_ne_top b⟩

theorem fin_sum {ι : Type} (s : Finset ι) (f : ι → EReal) (h : ∀ i ∈ s, IsFin (f i)) : IsFin (∑ i ∈ s, f i) := by
  classical
  induction s using Finset.induction_on with
  | empty => rw [Finset.sum_empty]; exact fin_coe 0
  | insert a s ha ih =>
    rw [Finset.sum_insert ha]
    obtain ⟨b, hb⟩ := coe_of_fin (h a (Finset.mem_insert_self a s))
    obtain ⟨b', hb'⟩ := coe_of_fin (ih fun i hi => h i (Finset.mem_insert_of_mem hi))
    rw [hb, hb', ← EReal.coe_add]; exact fin_coe _

theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem fin_mul {a b : EReal} (ha : IsFin a) (hb : IsFin b) : IsFin (a * b) := by
  obtain ⟨a', rfl⟩ := coe_of_fin ha
  obtain ⟨b', rfl⟩ := coe_of_fin hb
  rw [← EReal.coe_mul]; exact fin_coe _

variable {x r}
variable (hx : ∀ i k, IsFin (x (ix2 i k))) (hr : ∀ k e, IsFin (r (ix2 k e)))
include hx hr

theorem fin_score (i : Fin 512) (e : Fin 64) : IsFin (score x r i e) :=
  fin_sum _ _ fun k _ => fin_mul (hx i k) (hr k e)

theorem fin_top (i : Fin 512) : IsFin (top x r i) := by
  have hle : ∀ e : Fin 64, score x r i e ≤ top x r i := fun e =>
    (Finset.le_fold_max _).mpr (.inr ⟨e, Finset.mem_univ e, le_rfl⟩)
  constructor
  · intro h
    exact (fin_score hx hr i 0).1 (le_bot_iff.mp (h ▸ hle 0))
  · intro h
    have : (⊤ : EReal) ≤ top x r i := h ▸ le_rfl
    rcases (Finset.le_fold_max _).mp this with h' | ⟨e, _, h'⟩
    · have hbot : Ideal.ofBits FTy.f32 0xFF800000#32 = ⊥ := by simp [Ideal.ofBits, Ideal.ieee]
      rw [hbot] at h'; exact absurd h' (by simp)
    · exact (fin_score hx hr i e).2 (top_le_iff.mp h')

/-- A shifted score's exponential is a positive real. -/
theorem expo (i : Fin 512) (e : Fin 64) : ∃ a : ℝ, 0 < a ∧ Ideal.exp (score x r i e - top x r i) = a := by
  obtain ⟨a, ha⟩ := coe_of_fin (fin_score hx hr i e)
  obtain ⟨b, hb⟩ := coe_of_fin (fin_top hx hr i)
  exact ⟨Real.exp (a - b), Real.exp_pos _, by rw [ha, hb, ← EReal.coe_sub]; rfl⟩

/-- A probability is a real number that is not negative. -/
theorem prob_real (i : Fin 512) (e : Fin 64) : 0 ≤ prob x r i e ∧ prob x r i e ≠ ⊤ := by
  choose f hf hfe using expo hx hr i
  have hs : (∑ e' : Fin 64, Ideal.exp (score x r i e' - top x r i)) = ((∑ e' : Fin 64, f e' : ℝ) : EReal) := by
    rw [coe_sum]; exact Finset.sum_congr rfl fun e' _ => hfe e'
  have hpos : 0 < ∑ e' : Fin 64, f e' := Finset.sum_pos (fun e' _ => hf e') ⟨0, Finset.mem_univ 0⟩
  have hp : prob x r i e = ((f e * (∑ e' : Fin 64, f e')⁻¹ : ℝ) : EReal) := by
    unfold prob
    rw [hs, hfe e]
    unfold Ideal.div
    rw [if_neg (by exact_mod_cast hpos.ne'), EReal.coe_mul, EReal.coe_inv]
  rw [hp]
  exact ⟨by exact_mod_cast mul_nonneg (hf e).le (inv_nonneg.mpr hpos.le), EReal.coe_ne_top _⟩

theorem weight_real (n : BitVec 32) (i : Fin 512) : 0 ≤ weight x r n i ∧ weight x r n i ≠ ⊤ := by
  unfold weight
  split
  · exact prob_real hx hr i _
  · exact ⟨le_rfl, EReal.zero_ne_top⟩

end

/-- A factor that is at least zero and not infinite may be taken into a sum. -/
theorem mul_sum_of_real {ι : Type} {p : EReal} (h0 : 0 ≤ p) (ht : p ≠ ⊤) (s : Finset ι) (f : ι → EReal) :
    p * ∑ i ∈ s, f i = ∑ i ∈ s, p * f i := by
  classical
  induction s using Finset.induction_on with
  | empty => simp
  | insert a s ha ih => rw [Finset.sum_insert ha, Finset.sum_insert ha, EReal.left_distrib_of_nonneg_of_ne_top h0 ht, ih]

end Cert.Moe

end
-- ==== Proof.V.KernelValue.lean ====
/-
  What the kernel leaves in its result, over the extended reals: a device's contribution to a token block, read at an
  index, the sum of the sixteen contributions, and the result.
-/
module

public import proofs.«01_k».proof.Proof.KI.Protocol
public import proofs.«01_k».proof.Proof.V.Spec

@[expose] public section

noncomputable section

namespace Cert.Moe

open Idealize.ShloMosaic Cert.KernelIdeal Cert.KernelIdeal.Gen Cert.KernelIdeal.Moe

set_option maxRecDepth 16384

/-- A choice by an equality of words is the choice by that equality. -/
theorem select_cmpi_eq {α : Type} {w : ℕ} (a b : BitVec w) (u v : α) : Scalar.select (IntOp.cmpi .eq a b) u v = if a = b then u else v := by
  rw [show IntOp.cmpi .eq a b = BitVec.ofBool (decide (a = b)) from rfl]
  by_cases h : a = b <;> simp [h, Scalar.select]

/-- The kernel's probability column holds the token's weight. -/
theorem pay4_eq (x : Vec Ideal ⟨2, ![512, 256]⟩ .bf16) (r : Vec Ideal ⟨2, ![256, 64]⟩ .bf16) (n : Vec Ideal ⟨2, ![512, 1]⟩ .i32) (i : Fin 512) :
    k0_pay4 (F := Ideal) x r n (ix2 i 0) = weight x r (n (ix2 i 0)) i := by
  rw [weight_eq_sum]
  pointwise [k0_pay4, k0_pay2, k0_pay3]
  refine Finset.sum_congr rfl fun e _ => ?_
  rw [select_cmpi_eq]
  rfl

/-- The number of the expert in slot `e` of device `c`. -/
theorem expert_word (c : Dev nD) (e : Fin 4) : Scalar.addi (Scalar.muli (wd c) 4#32) (BitVec.ofNat 32 e.val) = BitVec.ofNat 32 (4 * c.val + e.val) := by
  revert c e; decide

/-- The token at place `b` of token block `d`. -/
def tok (d : Fin 16) (b : Fin 32) : Fin 512 := ⟨d.val * 32 + b.val, by omega⟩

/-- A sum over four slots of 256 as one over 1024. -/
theorem sum_slots (f : Fin 1024 → EReal) : ∑ q, f q = ∑ e : Fin 4, ∑ k : Fin 256, f ⟨256 * e.val + k.val, by omega⟩ := by
  rw [← Fintype.sum_prod_type', ← (finProdFinEquiv (m := 4) (n := 256)).sum_comp]
  exact Finset.sum_congr rfl fun p _ => congrArg f (Fin.ext (Nat.add_comm _ _))
/-- A sum over sixteen devices of four slots as one over the 64 experts. -/
theorem sum_experts (f : Fin 64 → EReal) : ∑ q, f q = ∑ c : Fin 16, ∑ e : Fin 4, f ⟨4 * c.val + e.val, by omega⟩ := by
  rw [← Fintype.sum_prod_type', ← (finProdFinEquiv (m := 16) (n := 4)).sum_comp]
  exact Finset.sum_congr rfl fun p _ => congrArg f (Fin.ext (Nat.add_comm _ _))

variable (c : Dev nD) (x : Vec Ideal ⟨2, ![512, 256]⟩ .bf16) (r : Vec Ideal ⟨2, ![256, 64]⟩ .bf16) (n : Vec Ideal ⟨2, ![512, 1]⟩ .i32)
  (w : Vec Ideal ⟨3, ![4, 256, 512]⟩ .bf16)

/-- A device's contribution: of each of its four experts, the token's weight times the expert's product, if it is the
    expert the token is routed to. -/
theorem contribution (d : Fin 16) (b : Fin 32) (h : Fin 512) :
    k0_pay7 (F := Ideal) (wd c) (k0_pay2 x) (k0_pay3 n) (k0_pay4 x r n) (k0_pay5 (wd c) x r n) (k0_pay6 (wd c) n) (Scalar.ofBits .f32 0x00000000#32) w (ix3 d b h)
      = ∑ e : Fin 4, ∑ k : Fin 256, if n (ix2 (tok d b) 0) = BitVec.ofNat 32 (4 * c.val + e.val) then
          x (ix2 (tok d b) k) * weight x r (n (ix2 (tok d b) 0)) (tok d b) * w (ix3 e k h) else 0 := by
  pointwise [k0_pay7, k0_pay5, k0_pay6, k0_pay2, k0_pay3]
  rw [sum_slots]
  refine Finset.sum_congr rfl fun e _ => Finset.sum_congr rfl fun k _ => ?_
  simp only [← expert_word, select_cmpi_eq, ← pay4_eq]
  have hk := k.isLt
  have hi : (⟨d.val * 32 + b.val, by omega⟩ : Fin 512) = tok d b := rfl
  have hw : w (ix3 ⟨(256 * e.val + k.val) / 256, by omega⟩ ⟨(256 * e.val + k.val) % 256, by omega⟩ h) = w (ix3 e k h) := by
    congr 2 <;> apply Fin.ext <;> simp only <;> omega
  rw [hw]
  simp only [hi]
  have piece : ∀ (q : ℕ) (v : BitVec 32) (hq : q < 256), q = k.val → v = BitVec.ofNat 32 e.val →
      (if n (ix2 (tok d b) 0) = Scalar.addi (Scalar.muli (wd c) 4#32) v then
          x (ix2 (tok d b) ⟨q, hq⟩) * k0_pay4 x r n (ix2 (tok d b) 0) else 0) * w (ix3 e k h)
        = if n (ix2 (tok d b) 0) = Scalar.addi (Scalar.muli (wd c) 4#32) (BitVec.ofNat 32 e.val) then
            x (ix2 (tok d b) k) * k0_pay4 x r n (ix2 (tok d b) 0) * w (ix3 e k h) else 0 := by
    intro q v hq h1 h2
    subst h1 h2
    split
    · rfl
    · exact zero_mul _
  by_cases h0 : e.val = 0
  · rw [dif_pos (by omega)]; exact piece _ _ _ (by omega) (by rw [h0])
  by_cases h1 : e.val = 1
  · rw [dif_neg (by omega), dif_pos (by omega)]; exact piece _ _ _ (by omega) (by rw [h1])
  by_cases h2 : e.val = 2
  · rw [dif_neg (by omega), dif_neg (by omega), dif_pos (by omega)]; exact piece _ _ _ (by omega) (by rw [h2])
  · have h3 : e.val = 3 := by omega
    rw [dif_neg (by omega), dif_neg (by omega), dif_neg (by omega)]; exact piece _ _ _ (by omega) (by rw [h3])

/-- The sum over the devices of what they contribute is the weight times the expert's product. -/
theorem sum_contributions (W : (⟨3, ![64, 256, 512]⟩ : Shape).Idx → EReal) (v : BitVec 32) (y : Fin 256 → EReal) (p : EReal) (h0 : 0 ≤ p) (ht : p ≠ ⊤)
    (hp : ¬ v.toNat < 64 → p = 0) (h : Fin 512) (j : Fin 64) (hj : v.toNat < 64 → j.val = v.toNat) :
    (∑ e : Fin 64, ∑ k : Fin 256, if v = BitVec.ofNat 32 e.val then y k * p * W (ix3 e k h) else 0)
      = p * ∑ k : Fin 256, y k * W (ix3 j k h) := by
  have hm : ∀ e : Fin 64, v = BitVec.ofNat 32 e.val ↔ e.val = v.toNat := fun e => by
    rw [← BitVec.toNat_inj, BitVec.toNat_ofNat, Nat.mod_eq_of_lt (by omega)]; exact eq_comm
  simp only [hm]
  by_cases hv : v.toNat < 64
  · rw [Finset.sum_eq_single j (fun e _ he => Finset.sum_eq_zero fun k _ => if_neg fun h' => he (Fin.ext (h'.trans (hj hv).symm)))
      (fun h' => absurd (Finset.mem_univ _) h'), mul_sum_of_real h0 ht]
    refine Finset.sum_congr rfl fun k _ => ?_
    rw [if_pos (hj hv), mul_comm (y k) p, mul_assoc]
  · rw [hp hv, zero_mul]
    exact Finset.sum_eq_zero fun e _ => Finset.sum_eq_zero fun k _ => by rw [mul_zero, zero_mul, ite_self]

variable (m : (ℓ : Loc nD τ sig) → Buf (Elt Ideal) ℓ)

/-- What the sixteen devices contribute to the token at place `b` of block `d`, added. -/
theorem redF_eq (d : Dev nD) (b : Fin 32) (h : Fin 512) :
    redF m d (ix2 b h) = ∑ c : Dev nD, accF m c (ix3 (⟨d.val, d.isLt⟩ : Fin 16) b h) := by
  unfold redF
  pointwise [k0_pay9]
  rw [univ_eq d, Finset.sum_insert (by
    simp only [Finset.mem_map, Finset.mem_univ, true_and, Function.Embedding.coeFn_mk, not_exists]; exact orig_ne d), Finset.sum_map]
  rfl

/-- The whole result of the kernel on device `c`, at an index. -/
theorem outF_eq (d : Dev nD) (b : Fin 32) (h : Fin 512) :
    outF m c (ix2 (tok d b) h)
      = redF m d (ix2 b h) + ∑ k : Fin 256, inX m c (ix2 (tok d b) k) * inS m c (ix2 k h) := by
  unfold outF
  pointwise [k0_pay1, k0_pay8, k0_pay2]
  have e : tok d b = row d b := Fin.ext (by simp only [tok, row]; omega)
  have h' : agF m (ix2 (row d b) h) = redF m d (ix2 b h) := agF_row m d b h
  rw [e, h']
end Cert.Moe

end
-- ==== Proof.V.RefValue.lean ====
/-
  What the reference returns, over the extended reals, at an index: the weight of the token's expert times the expert's
  product, and the shared expert's product.
-/
module

public import proofs.«01_k».proof.Proof.Gen.ReferenceIdeal.Run
public import proofs.«01_k».proof.Proof.V.Spec
public import Idealize.ShloMosaic.Lib.Tactic.CleanTypes

@[expose] public section

noncomputable section

namespace Cert.Moe

open Idealize.ShloMosaic Cert.ReferenceIdeal Cert.ReferenceIdeal.Gen Cert.ReferenceIdeal.Value

set_option maxRecDepth 16384

/-- Taking one probability of each token: the one at the token's index, cut off at the ends. -/
theorem take_prob {α : Type} (X : S512x64.Idx → α) (idx : IVec S512x1x1 32) (i : Fin 512) :
    Host.gather gather_S512x64_S512x1x1_S512x1_n_1_0_0_1_2_11 X idx (ix2 i 0)
      = X (ix2 i (⟨min (idx (ix3 i 0 0)).toInt.toNat 63, by omega⟩ : Fin 64)) := by
  unfold Host.gather
  congr 1
  have hs : ∀ q, gather_S512x64_S512x1x1_S512x1_n_1_0_0_1_2_11.siIdx (ix2 i 0) q = (ix3 i 0 0 : S512x1x1.Idx) := fun q => by
    funext b; match b with
    | ⟨0, _⟩ => rfl
    | ⟨1, _⟩ => rfl
    | ⟨2, _⟩ => exact Fin.ext (by have := q.isLt; change q.val < 1 at this; show q.val = 0; omega)
  funext a; match a with
  | ⟨0, _⟩ => exact Fin.ext (by show 0 + i.val + 0 = i.val; omega)
  | ⟨1, _⟩ =>
    apply Fin.ext
    show min (idx (gather_S512x64_S512x1x1_S512x1_n_1_0_0_1_2_11.siIdx (ix2 i 0) _)).toInt.toNat 63 + 0 + 0 = _
    rw [hs]; rfl

/-- Taking each token's expert: the one at the token's index, cut off at the ends. -/
theorem take_expert {α : Type} (X : S64x256x512.Idx → α) (idx : IVec S512x1 32) (i : Fin 512) (k : Fin 256) (h : Fin 512) :
    Host.gather gather_S64x256x512_S512x1_S512x256x512_12_0_n_n_0_1_1256512 X idx (ix3 i k h)
      = X (ix3 (⟨min (idx (ix2 i 0)).toInt.toNat 63, by omega⟩ : Fin 64) k h) := by
  unfold Host.gather
  congr 1
  have hs : ∀ q, gather_S64x256x512_S512x1_S512x256x512_12_0_n_n_0_1_1256512.siIdx (ix3 i k h) q = (ix2 i 0 : S512x1.Idx) := fun q => by
    funext b; match b with
    | ⟨0, _⟩ => rfl
    | ⟨1, _⟩ => exact Fin.ext (by have := q.isLt; change q.val < 1 at this; show q.val = 0; omega)
  funext a; match a with
  | ⟨0, _⟩ =>
    apply Fin.ext
    show min (idx (gather_S64x256x512_S512x1_S512x256x512_12_0_n_n_0_1_1256512.siIdx (ix3 i k h) _)).toInt.toNat 63 + 0 + 0 = _
    rw [hs]; rfl
  | ⟨1, _⟩ => exact Fin.ext (by show 0 + 0 + k.val = k.val; omega)
  | ⟨2, _⟩ => exact Fin.ext (by show 0 + 0 + h.val = h.val; omega)

/-- The comparisons of an index that names an expert. -/
theorem in_range {v : BitVec 32} (h : v.toNat < 64) :
    IntOp.cmpi .slt v 0#32 = 0#1 ∧ IntOp.cmpi .sge v 0#32 = 1#1 ∧ IntOp.cmpi .slt v 64#32 = 1#1 ∧ IntOp.cmpi .sle v 63#32 = 1#1
      ∧ min v.toInt.toNat 63 = v.toNat := by
  have e : v = BitVec.ofNat 32 (⟨v.toNat, h⟩ : Fin 64).val := by simp
  rw [e]
  generalize (⟨v.toNat, h⟩ : Fin 64) = q
  revert q; decide

/-- An index that names no expert fails one of the mask's comparisons. -/
theorem out_of_range {v : BitVec 32} (h : ¬ v.toNat < 64) : IntOp.andi (IntOp.cmpi .sge v 0#32) (IntOp.cmpi .slt v 64#32) = 0#1 := by
  have hv := v.isLt
  by_cases h' : v.toNat < 2 ^ 31
  · have : IntOp.cmpi .slt v 64#32 = 0#1 := by
      have e : v.toInt = v.toNat := by rw [BitVec.toInt_eq_toNat_cond, if_pos (by omega)]
      show BitVec.ofBool (decide (v.toInt < (64#32 : BitVec 32).toInt)) = 0#1
      rw [e, decide_eq_false (by show ¬ (v.toNat : ℤ) < 64; omega)]; rfl
    rw [this]; show _ &&& 0#1 = 0#1; exact BitVec.and_zero
  · have : IntOp.cmpi .sge v 0#32 = 0#1 := by
      have e : v.toInt = v.toNat - 2 ^ 32 := by rw [BitVec.toInt_eq_toNat_cond, if_neg (by omega)]; rfl
      show BitVec.ofBool (decide ((0#32 : BitVec 32).toInt ≤ v.toInt)) = 0#1
      rw [e, decide_eq_false (by show ¬ (0 : ℤ) ≤ v.toNat - 2 ^ 32; omega)]; rfl
    rw [this]; show 0#1 &&& _ = 0#1; exact BitVec.zero_and

/-- The expert numbered `v`, where there is one. -/
def expert (v : BitVec 32) : Fin 64 := ⟨min v.toNat 63, by omega⟩

/-- An index with a negative one counted from the end. -/
abbrev wrap (v : BitVec 32) : BitVec 32 := Scalar.select (IntOp.cmpi .slt v 0#32) (IntOp.addi v 64#32) v

/-- The routed part of a result, as the reference has it: an index in range is read as it is, and of another the
    probability is replaced by zero. -/
theorem routed_eq (x : (⟨2, ![512, 256]⟩ : Shape).Idx → EReal) (r : (⟨2, ![256, 64]⟩ : Shape).Idx → EReal)
    (w : (⟨3, ![64, 256, 512]⟩ : Shape).Idx → EReal) (v : BitVec 32) (i : Fin 512) (h : Fin 512) :
    Scalar.select (IntOp.andi (IntOp.cmpi .sge v 0#32) (IntOp.cmpi .slt v 64#32))
        (Scalar.select (Finset.fold IntOp.andi 1#1 (fun _ : Fin 1 => IntOp.andi (IntOp.cmpi .sge (wrap v) 0#32) (IntOp.cmpi .sle (wrap v) 63#32)) Finset.univ)
          (prob x r i ⟨min (wrap v).toInt.toNat 63, by omega⟩) (Ideal.ofBits .f32 0x7FC00000#32))
        (Ideal.ofBits .f32 0x00000000#32)
        * ∑ k : Fin 256, x (ix2 i k) * w (ix3 (⟨min (wrap v).toInt.toNat 63, by omega⟩ : Fin 64) k h)
      = weight x r v i * ∑ k : Fin 256, x (ix2 i k) * w (ix3 (expert v) k h) := by
  unfold weight
  by_cases hv : v.toNat < 64
  · obtain ⟨h1, h2, h3, h4, h5⟩ := in_range hv
    have hw : wrap v = v := by unfold wrap; rw [h1]; rfl
    have he : (⟨min v.toInt.toNat 63, by omega⟩ : Fin 64) = ⟨v.toNat, hv⟩ := Fin.ext h5
    have he' : expert v = ⟨v.toNat, hv⟩ := Fin.ext (by show min v.toNat 63 = v.toNat; omega)
    simp only [hw, h2, h3, h4, he, he']
    rw [dif_pos hv]
    rfl
  · rw [out_of_range hv, dif_neg hv, zero_mul]
    exact (congrArg (· * _) Ideal.ofBits_zero_f32).trans (zero_mul _)

variable (m : (ℓ : Loc nD τ sig) → Buf (Elt Ideal) ℓ)

/-- The reference's arguments. -/
abbrev X : (⟨2, ![512, 256]⟩ : Shape).Idx → EReal := m ((0 : Dev nD).tc.loc main_arg0)
abbrev R : (⟨2, ![256, 64]⟩ : Shape).Idx → EReal := m ((0 : Dev nD).tc.loc main_arg1)
abbrev N : (⟨2, ![512, 1]⟩ : Shape).Idx → BitVec 32 := m ((0 : Dev nD).tc.loc main_arg2)
abbrev W : (⟨3, ![64, 256, 512]⟩ : Shape).Idx → EReal := m ((0 : Dev nD).tc.loc main_arg3)
abbrev S : (⟨2, ![256, 512]⟩ : Shape).Idx → EReal := m ((0 : Dev nD).tc.loc main_arg4)

/-- The reference's result at an index. -/
theorem res_eq (i : Fin 512) (h : Fin 512) :
    (res_main_v34 (F := Ideal) m 0 : (⟨2, ![512, 512]⟩ : Shape).Idx → EReal) (ix2 i h)
      = (∑ k : Fin 256, X m (ix2 i k) * S m (ix2 k h))
        + weight (X m) (R m) (N m (ix2 i 0)) i * ∑ k : Fin 256, X m (ix2 i k) * W m (ix3 (expert (N m (ix2 i 0))) k h) := by
  unfold res_main_v34
  clean_types
  pointwise
  refine congrArg (fun z => _ + z) ?_
  simp only [take_prob, take_expert]
  pointwise
  exact routed_eq (X m) (R m) (W m) (N m (ix2 i 0)) i h

end Cert.Moe

end
-- ==== Proof.V.Equal.lean ====
/-
  The equation: from arguments that agree, of which tokens and router are finite, the kernel leaves on every device what
  the reference returns.
-/
module

public import proofs.«01_k».proof.Defs
public import proofs.«01_k».proof.Proof.KI.Run
public import proofs.«01_k».proof.Proof.V.KernelValue
public import proofs.«01_k».proof.Proof.V.RefValue

@[expose] public section

noncomputable section

namespace Cert.Moe

open Idealize.ShloMosaic

set_option maxRecDepth 16384

instance pre_facts : Cert.Pre_inputs_finite_KernelIdeal.Facts := by constructor <;> decide
instance pre_facts_ref : Cert.Pre_inputs_finite_ReferenceIdeal.Facts := by constructor <;> decide

/-- The precondition, read at an entry: the entry is finite. -/
theorem finite_of_pre (x : (⟨2, ![512, 256]⟩ : Shape).Idx → EReal) (r : (⟨2, ![256, 64]⟩ : Shape).Idx → EReal) (n : (⟨2, ![512, 1]⟩ : Shape).Idx → BitVec 32)
    (w : (⟨3, ![4, 256, 512]⟩ : Shape).Idx → EReal) (s : (⟨2, ![256, 512]⟩ : Shape).Idx → EReal)
    (h : Cert.Pre_inputs_finite_KernelIdeal.fn (F := Ideal) x r n w s = fun _ => 1#1) :
    (∀ i k, IsFin (x (ix2 i k))) ∧ ∀ k e, IsFin (r (ix2 k e)) := by
  have hq : ∀ (q : Fin 576) (k : Fin 256), Cert.Pre_inputs_finite_KernelIdeal.fn (F := Ideal) x r n w s (ix2 q k) = 1#1 := fun q k => congrFun h _
  pointwise [Cert.Pre_inputs_finite_KernelIdeal.fn] at hq
  have hb : Ideal.ofBits FTy.f32 0xFF800000#32 = ⊥ := by simp [Ideal.ofBits, Ideal.ieee]
  have ht : Ideal.ofBits FTy.f32 0x7F800000#32 = ⊤ := by simp [Ideal.ofBits, Ideal.ieee]
  rw [hb, ht] at hq
  have hand : ∀ p q : Prop, ∀ [Decidable p] [Decidable q], IntOp.andi (BitVec.ofBool (decide p)) (BitVec.ofBool (decide q)) = 1#1 → p ∧ q := by
    intro p q _ _ h
    by_cases hp : p <;> by_cases hq : q <;> simp [hp, hq, IntOp.andi] at h ⊢
  constructor
  · intro i k
    have := hand _ _ (hq ⟨i.val, by omega⟩ k)
    simp only [dif_pos i.isLt] at this
    exact ⟨this.1.ne', this.2.ne⟩
  · intro k e
    have := hand _ _ (hq ⟨512 + e.val, by omega⟩ k)
    have hn : ¬ 512 + e.val < 512 := by omega
    have he : (⟨512 + e.val - 512, by omega⟩ : Fin 64) = e := Fin.ext (by show 512 + e.val - 512 = e.val; omega)
    simp only [dif_neg hn, he] at this
    exact ⟨this.1.ne', this.2.ne⟩

open Cert.KernelIdeal.Moe in
/-- The kernel's result is the reference's, on every device. -/
theorem out_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hx : ∀ c, inX m c = X m') (hr : ∀ c, inR m c = R m') (hn : ∀ c, inI m c = N m')
    (hw : ∀ c, inE m c = Layout.block ⟨3, ![4, 256, 512]⟩ ⟨3, ![64, 256, 512]⟩ 0 16 c (W m')) (hs : ∀ c, inS m c = S m')
    (hX : ∀ i k, IsFin (X m' (ix2 i k))) (hR : ∀ k e, IsFin (R m' (ix2 k e))) (c : Dev Cert.KernelIdeal.nD) :
    outF m c = (Cert.ReferenceIdeal.Value.res_main_v34 (F := Ideal) m' 0 : (⟨2, ![512, 512]⟩ : Shape).Idx → EReal) := by
  funext j
  obtain ⟨i, h, rfl⟩ : ∃ (i : Fin 512) (h : Fin 512), j = ix2 i h := ⟨j 0, j 1, eq_ix2 j⟩
  obtain ⟨d, b, rfl⟩ : ∃ (d : Fin 16) (b : Fin 32), i = tok d b :=
    ⟨⟨i.val / 32, by omega⟩, ⟨i.val % 32, by omega⟩, Fin.ext (by simp only [tok]; omega)⟩
  have hv := weight_real hX hR (N m' (ix2 (tok d b) 0)) (tok d b)
  have hc : ∀ c' : Dev Cert.KernelIdeal.nD, accF m c' (ix3 d b h)
      = ∑ e : Fin 4, ∑ k : Fin 256, if N m' (ix2 (tok d b) 0) = BitVec.ofNat 32 (4 * c'.val + e.val) then
          X m' (ix2 (tok d b) k) * weight (X m') (R m') (N m' (ix2 (tok d b) 0)) (tok d b) * W m' (ix3 (⟨4 * c'.val + e.val, by have := c'.isLt; change c'.val < 16 at this; omega⟩ : Fin 64) k h) else 0 := by
    intro c'
    refine (contribution c' (inX m c') (inR m c') (inI m c') (inE m c') d b h).trans ?_
    rw [hx c', hr c', hn c', hw c']
    refine Finset.sum_congr rfl fun e _ => Finset.sum_congr rfl fun k _ => ?_
    have e' : Layout.block ⟨3, ![4, 256, 512]⟩ ⟨3, ![64, 256, 512]⟩ 0 16 c' (W m') (by decide) (ix3 e k h)
        = W m' (ix3 (⟨4 * c'.val + e.val, by have := c'.isLt; change c'.val < 16 at this; omega⟩ : Fin 64) k h) := by
      rw [Layout.block_apply]
      refine congrArg (W m') (funext fun a => Fin.ext ?_)
      match a with
      | ⟨0, _⟩ => show c'.val * 4 + e.val = 4 * c'.val + e.val; omega
      | ⟨1, _⟩ => rfl
      | ⟨2, _⟩ => rfl
    rw [e']
  rw [outF_eq c m d b h, res_eq, hx c, hs c, add_comm]
  refine congrArg (fun z => _ + z) ?_
  rw [redF_eq m d b h]
  refine (Finset.sum_congr rfl fun c' _ => hc c').trans ?_
  refine (sum_experts fun q => ∑ k : Fin 256, if N m' (ix2 (tok d b) 0) = BitVec.ofNat 32 q.val then
    X m' (ix2 (tok d b) k) * weight (X m') (R m') (N m' (ix2 (tok d b) 0)) (tok d b) * W m' (ix3 q k h) else 0).symm.trans ?_
  exact sum_contributions (W m') _ (fun k => X m' (ix2 (tok d b) k)) _ hv.1 hv.2 (fun hn => by unfold weight; rw [dif_neg hn]) h _
    (fun hlt => by show min _ 63 = _; omega)

/-- The algebraic claim. -/
theorem algebraic : Cert.algebraic_KernelIdeal_ReferenceIdeal_pre_inputs_finite_KernelIdeal (hKernelIdeal := Cert.KernelIdeal.Gen.facts)
    (hReferenceIdeal := Cert.ReferenceIdeal.Gen.facts) (hPre_inputs_finite_KernelIdeal := pre_facts) := fun m g m' g' hp ha => by
  have h0 := finite_of_pre _ _ _ _ _ (hp 0)
  have hX : ∀ i k, IsFin (X m' (ix2 i k)) := fun i k => by rw [show X m' = _ from (ha 0).1.symm]; exact h0.1 i k
  have hR : ∀ k e, IsFin (R m' (ix2 k e)) := fun k e => by rw [show R m' = _ from (ha 0).2.1.symm]; exact h0.2 k e
  refine ⟨Cert.ReferenceIdeal.Value.res_main_v34 m' 0, ?_, ?_⟩
  · refine (θ_run Cert.KernelIdeal.defs _ _).mono (fun q h c => ⟨(h.1 c).1.trans ?_, (h.1 c).2⟩) (Cert.KernelIdeal.Moe.run_all m g)
    exact out_eq m m' (fun c => (Cert.KernelIdeal.Moe.inX_eq m c).trans (ha c).1) (fun c => (Cert.KernelIdeal.Moe.inR_eq m c).trans (ha c).2.1)
      (fun c => (Cert.KernelIdeal.Moe.inI_eq m c).trans (ha c).2.2.1) (fun c => (Cert.KernelIdeal.Moe.inE_eq m c).trans (ha c).2.2.2.1)
      (fun c => (Cert.KernelIdeal.Moe.inS_eq m c).trans (ha c).2.2.2.2) hX hR c
  · exact (θ_run Cert.ReferenceIdeal.defs _ _).mono (fun q h => h 0) (Cert.ReferenceIdeal.Value.run m' g')

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.K.Run
public import proofs.«01_k».proof.Proof.KI.Run
public import proofs.«01_k».proof.Proof.V.Equal
public import Idealize.ShloMosaic.Adequacy
public import Idealize.ShloMosaic.Init

@[expose] public section

noncomputable section

namespace Cert.Proof

open Idealize.ShloMosaic Idealize.SL.Sem Cert.Kernel

theorem frame_kernel : Cert.quiescent_Kernel (hKernel := Cert.Kernel.Gen.facts) := fun m g _ =>
  (θ_run Cert.Kernel.defs _ _).mono (fun r h => ⟨fun c => (h.1 c).2, h.2⟩) (Cert.Kernel.Moe.run_all m g)
theorem frame_kernelIdeal : Cert.quiescent_KernelIdeal (hKernelIdeal := Cert.KernelIdeal.Gen.facts) := fun m g _ =>
  (θ_run Cert.KernelIdeal.defs _ _).mono (fun r h => ⟨fun c => (h.1 c).2, h.2⟩) (Cert.KernelIdeal.Moe.run_all m g)
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩) (Cert.ReferenceIdeal.Value.run m g)

theorem claim : Cert.Claim := ⟨Cert.Kernel.Gen.facts, Cert.KernelIdeal.Gen.facts, Cert.ReferenceIdeal.Gen.facts,
  Cert.Moe.pre_facts, Cert.Moe.pre_facts_ref, frame_kernel, frame_kernelIdeal, fun m g _ => frame_kernelIdeal m g trivial,
  frame_reference, fun m g _ => frame_reference m g trivial, trivial, Cert.Moe.algebraic⟩

end Cert.Proof

end
